-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gumbel_finite [hPre_gumbel_finite : Cert.Pre_gumbel_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gumbel_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gumbel_finite [hPre_gumbel_finite : Cert.Pre_gumbel_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gumbel_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gumbel_finite [hKernelIdeal : Cert.KernelIdeal.Facts] [hPre_gumbel_finite : Cert.Pre_gumbel_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gumbel_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gumbel_finite [hReferenceIdeal : Cert.ReferenceIdeal.Facts] [hPre_gumbel_finite : Cert.Pre_gumbel_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gumbel_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gumbel_finite [hKernelIdeal : Cert.KernelIdeal.Facts] [hReferenceIdeal : Cert.ReferenceIdeal.Facts] [hPre_gumbel_finite : Cert.Pre_gumbel_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gumbel_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_entropy_close_pre_gumbel_finite [hKernelIdeal : Cert.KernelIdeal.Facts] [hPre_gumbel_finite : Cert.Pre_gumbel_finite.Facts] [hPost_entropy_close : Cert.Post_entropy_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gumbel_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_entropy_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v7)) (r.2.mem ((c.tc : Thread Cert.KernelIdeal.nD Cert.KernelIdeal.τ).loc Cert.KernelIdeal.main_v10)) (r.2.mem ((c.tc : Thread Cert.KernelIdeal.nD Cert.KernelIdeal.τ).loc Cert.KernelIdeal.main_v11)) (r.2.mem ((c.tc : Thread Cert.KernelIdeal.nD Cert.KernelIdeal.τ).loc Cert.KernelIdeal.main_v9))) = (fun _ => 1#1))

def Claim : Prop :=
  ∃ (hKernel : Cert.Kernel.Facts) (hKernelIdeal : Cert.KernelIdeal.Facts) (hReferenceIdeal : Cert.ReferenceIdeal.Facts) (hPre_gumbel_finite : Cert.Pre_gumbel_finite.Facts) (hPost_entropy_close : Cert.Post_entropy_close.Facts),
    quiescent_Kernel (hKernel := hKernel)
    ∧ quiescent_KernelIdeal (hKernelIdeal := hKernelIdeal)
    ∧ quiescent_KernelIdeal_pre_gumbel_finite (hKernelIdeal := hKernelIdeal) (hPre_gumbel_finite := hPre_gumbel_finite)
    ∧ quiescent_ReferenceIdeal (hReferenceIdeal := hReferenceIdeal)
    ∧ quiescent_ReferenceIdeal_pre_gumbel_finite (hReferenceIdeal := hReferenceIdeal) (hPre_gumbel_finite := hPre_gumbel_finite)
    ∧ preserves_Kernel_KernelIdeal
    ∧ algebraic_KernelIdeal_ReferenceIdeal_pre_gumbel_finite (hKernelIdeal := hKernelIdeal) (hReferenceIdeal := hReferenceIdeal) (hPre_gumbel_finite := hPre_gumbel_finite)
    ∧ holds_KernelIdeal_entropy_close_pre_gumbel_finite (hKernelIdeal := hKernelIdeal) (hPre_gumbel_finite := hPre_gumbel_finite) (hPost_entropy_close := hPost_entropy_close)
-- ==== Post_entropy_close.lean ====
abbrev S4x576x64 : Shape := ⟨3, ![4, 576, 64]⟩
abbrev S8192x64 : Shape := ⟨2, ![8192, 64]⟩
abbrev S1 : Shape := ⟨1, ![1]⟩
abbrev S_ : Shape := ⟨0, ![]⟩
abbrev S4x576x8192 : Shape := ⟨3, ![4, 576, 8192]⟩
abbrev S4x576 : Shape := ⟨2, ![4, 576]⟩

class Facts : Prop where
  bcast_S_S4x576x8192 : S_.BroadcastsInDim S4x576x8192 (![] : Fin 0 → Fin S4x576x8192.rank)
  reducesTo_S4x576x8192_S4x576_d2 : S4x576x8192.ReducesTo [2] S4x576
  h_S_ : 0 < S_.numel
  reducesTo_S4x576_S_d0_1 : S4x576.ReducesTo [0, 1] S_

variable [Facts]

def fn {F : FTy → Type} [FloatOps F] (main_arg0 : FVec F S4x576x64 .f32) (main_arg1 : FVec F S8192x64 .f32) (main_arg2 : FVec F S1 .f32) (main_arg3 : FVec F S_ .f32) (main_arg4 : FVec F S4x576x8192 .f32) (main_arg5 : FVec F S4x576x64 .f32) (main_arg6 : FVec F S4x576x8192 .f32) (main_arg7 : FVec F S4x576x8192 .f32) (main_arg8 : FVec F S_ .f32) : IVec S_ 1 :=
  let main_cst : FVec F S_ .f32 := constant S_ .f32 0x322BCC77#32
  let main_v0 : FVec F S4x576x8192 .f32 := broadcastInDim S4x576x8192 ![] bcast_S_S4x576x8192 main_cst
  let main_v1 : FVec F S4x576x8192 .f32 := addf main_arg6 main_v0
  let main_v2 : FVec F S4x576x8192 .f32 := Host.log main_v1
  let main_v3 : FVec F S4x576x8192 .f32 := mulf main_arg6 main_v2
  let main_cst_0 : FVec F S_ .f32 := constant S_ .f32 0x00000000#32
  let main_v4 : FVec F S4x576 .f32 := (fun x v => Host.reduceAdd x v reducesTo_S4x576x8192_S4x576_d2 h_S_) main_v3 main_cst_0
  let main_cst_1 : FVec F S_ .f32 := constant S_ .f32 0x00000000#32
  let main_v5 : FVec F S_ .f32 := (fun x v => Host.reduceAdd x v reducesTo_S4x576_S_d0_1 h_S_) main_v4 main_cst_1
  let main_cst_2 : FVec F S_ .f32 := constant S_ .f32 0x45100000#32
  let main_v6 : FVec F S_ .f32 := Host.divf main_v5 main_cst_2
  let main_v7 : FVec F S_ .f32 := Host.negf main_v6
  let main_v8 : IVec S_ 1 := cmpf .ole main_v7 main_arg8
  let main_cst_3 : FVec F S_ .f32 := constant S_ .f32 0x38D1B717#32
  let main_v9 : FVec F S_ .f32 := addf main_v7 main_cst_3
  let main_v10 : IVec S_ 1 := cmpf .ole main_arg8 main_v9
  let main_v11 : IVec S_ 1 := andi main_v8 main_v10
  main_v11
-- ==== Pre_gumbel_finite.lean ====
abbrev S4x576x64 : Shape := ⟨3, ![4, 576, 64]⟩
abbrev S8192x64 : Shape := ⟨2, ![8192, 64]⟩
abbrev S1 : Shape := ⟨1, ![1]⟩
abbrev S_ : Shape := ⟨0, ![]⟩
abbrev S4x576x8192 : Shape := ⟨3, ![4, 576, 8192]⟩

class Facts : Prop where
  bcast_S_S4x576x8192 : S_.BroadcastsInDim S4x576x8192 (![] : Fin 0 → Fin S4x576x8192.rank)

variable [Facts]

def fn {F : FTy → Type} [FloatOps F] (main_arg0 : FVec F S4x576x64 .f32) (main_arg1 : FVec F S8192x64 .f32) (main_arg2 : FVec F S1 .f32) (main_arg3 : FVec F S_ .f32) (main_arg4 : FVec F S4x576x8192 .f32) : IVec S4x576x8192 1 :=
  let main_v0 : FVec F S4x576x8192 .f32 := Host.absf main_arg4
  let main_cst : FVec F S_ .f32 := constant S_ .f32 0x7F800000#32
  let main_v1 : FVec F S4x576x8192 .f32 := broadcastInDim S4x576x8192 ![] bcast_S_S4x576x8192 main_cst
  let main_v2 : IVec S4x576x8192 1 := cmpf .olt main_v0 main_v1
  main_v2
-- ==== Kernel.lean ====
abbrev S4x576x64 : Shape := ⟨3, ![4, 576, 64]⟩
abbrev S8192x64 : Shape := ⟨2, ![8192, 64]⟩
abbrev S1 : Shape := ⟨1, ![1]⟩
abbrev S_ : Shape := ⟨0, ![]⟩
abbrev S4x576x8192 : Shape := ⟨3, ![4, 576, 8192]⟩
abbrev S1x1 : Shape := ⟨2, ![1, 1]⟩
abbrev S2304x64 : Shape := ⟨2, ![2304, 64]⟩
abbrev S2304x8192 : Shape := ⟨2, ![2304, 8192]⟩
abbrev S128x64 : Shape := ⟨2, ![128, 64]⟩
abbrev S128x8192 : Shape := ⟨2, ![128, 8192]⟩
abbrev S8192 : Shape := ⟨1, ![8192]⟩
abbrev S8192x1 : Shape := ⟨2, ![8192, 1]⟩
abbrev S128 : Shape := ⟨1, ![128]⟩
abbrev S128x1 : Shape := ⟨2, ![128, 1]⟩
abbrev S128x128 : Shape := ⟨2, ![128, 128]⟩
abbrev S128x512 : Shape := ⟨2, ![128, 512]⟩
abbrev S1x128x1 : Shape := ⟨3, ![1, 128, 1]⟩
abbrev S1x1x1 : Shape := ⟨3, ![1, 1, 1]⟩

abbrev nBuf : Space → Nat
  | .hbm => 24
  | .vmem => 13
  | .smem => 2
  | _ => 0

abbrev bufTy : (tb : Table) → Fin (tcTables nBuf tb) → BufTy
  | .hbm, ⟨0, _⟩ => ⟨S4x576x64, .f32⟩
  | .hbm, ⟨1, _⟩ => ⟨S8192x64, .f32⟩
  | .hbm, ⟨2, _⟩ => ⟨S1, .f32⟩
  | .hbm, ⟨3, _⟩ => ⟨S_, .f32⟩
  | .hbm, ⟨4, _⟩ => ⟨S4x576x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S2304x64, .f32⟩
  | .hbm, ⟨13, _⟩ => ⟨S2304x8192, .f32⟩
  | .hbm, ⟨14, _⟩ => ⟨S2304x8192, .f32⟩
  | .hbm, ⟨15, _⟩ => ⟨S2304x8192, .f32⟩
  | .hbm, ⟨16, _⟩ => ⟨S2304x64, .f32⟩
  | .hbm, ⟨17, _⟩ => ⟨S1x1, .f32⟩
  | .hbm, ⟨18, _⟩ => ⟨S4x576x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x576x8192, .f32⟩
  | .hbm, ⟨23, _⟩ => ⟨S4x576x8192, .f32⟩
  | .local _ .vmem, ⟨0, _⟩ => ⟨S128x64, .f32⟩
  | .local _ .vmem, ⟨1, _⟩ => ⟨S128x64, .f32⟩
  | .local _ .vmem, ⟨2, _⟩ => ⟨S128x8192, .f32⟩
  | .local _ .vmem, ⟨3, _⟩ => ⟨S128x8192, .f32⟩
  | .local _ .vmem, ⟨4, _⟩ => ⟨S8192x64, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | .local _ .vmem, ⟨9, _⟩ => ⟨S128x64, .f32⟩
  | .local _ .vmem, ⟨10, _⟩ => ⟨S128x64, .f32⟩
  | .local _ .vmem, ⟨11, _⟩ => ⟨S1x1, .f32⟩
  | .local _ .vmem, ⟨12, _⟩ => ⟨S8192x64, .f32⟩
  | .local _ .smem, ⟨0, _⟩ => ⟨S1x1, .f32⟩
  | .local _ .smem, ⟨1, _⟩ => ⟨S1x1, .f32⟩
  | _, _ => ⟨S4x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x576x64 : Shape := ⟨3, ![4, 576, 64]⟩
abbrev S8192x64 : Shape := ⟨2, ![8192, 64]⟩
abbrev S1 : Shape := ⟨1, ![1]⟩
abbrev S_ : Shape := ⟨0, ![]⟩
abbrev S4x576x8192 : Shape := ⟨3, ![4, 576, 8192]⟩
abbrev S4x576 : Shape := ⟨2, ![4, 576]⟩
abbrev S4x576x1 : Shape := ⟨3, ![4, 576, 1]⟩
abbrev S8192 : Shape := ⟨1, ![8192]⟩
abbrev S8192x1 : Shape := ⟨2, ![8192, 1]⟩
abbrev S64x8192 : Shape := ⟨2, ![64, 8192]⟩
abbrev S4x576x8 : Shape := ⟨3, ![4, 576, 8]⟩
abbrev S4 : Shape := ⟨1, ![4]⟩
abbrev S4x1x1 : Shape := ⟨3, ![4, 1, 1]⟩
abbrev S576 : Shape := ⟨1, ![576]⟩
abbrev S1x576x1 : Shape := ⟨3, ![1, 576, 1]⟩
abbrev S4x576x8x1 : Shape := ⟨4, ![4, 576, 8, 1]⟩
abbrev S4x576x8x3 : Shape := ⟨4, ![4, 576, 8, 3]⟩
abbrev S1x1x1 : Shape := ⟨3, ![1, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S4x576x64, .f32⟩
  | .hbm, ⟨1, _⟩ => ⟨S8192x64, .f32⟩
  | .hbm, ⟨2, _⟩ => ⟨S1, .f32⟩
  | .hbm, ⟨3, _⟩ => ⟨S_, .f32⟩
  | .hbm, ⟨4, _⟩ => ⟨S4x576x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x576x64, .f32⟩
  | .hbm, ⟨9, _⟩ => ⟨S_, .f32⟩
  | .hbm, ⟨10, _⟩ => ⟨S4x576, .f32⟩
  | .hbm, ⟨11, _⟩ => ⟨S4x576x1, .f32⟩
  | .hbm, ⟨12, _⟩ => ⟨S4x576x1, .f32⟩
  | .hbm, ⟨13, _⟩ => ⟨S_, .f32⟩
  | .hbm, ⟨14, _⟩ => ⟨S_, .f32⟩
  | .hbm, ⟨15, _⟩ => ⟨S4x576x1, .f32⟩
  | .hbm, ⟨16, _⟩ => ⟨S4x576x1, .f32⟩
  | .hbm, ⟨17, _⟩ => ⟨S4x576x64, .f32⟩
  | .hbm, ⟨18, _⟩ => ⟨S4x576x64, .f32⟩
  | .hbm, ⟨19, _⟩ => ⟨S8192x64, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S64x8192, .f32⟩
  | .hbm, ⟨31, _⟩ => ⟨S4x576x8192, .f32⟩
  | .hbm, ⟨32, _⟩ => ⟨S4x576x8192, .f32⟩
  | .hbm, ⟨33, _⟩ => ⟨S4x576x8192, .f32⟩
  | .hbm, ⟨34, _⟩ => ⟨S4x576x8192, .f32⟩
  | .hbm, ⟨35, _⟩ => ⟨S_, .f32⟩
  | .hbm, ⟨36, _⟩ => ⟨S4x576, .f32⟩
  | .hbm, ⟨37, _⟩ => ⟨S_, .f32⟩
  | .hbm, ⟨38, _⟩ => ⟨S4x576, .f32⟩
  | .hbm, ⟨39, _⟩ => ⟨S4x576, .f32⟩
  | .hbm, ⟨40, _⟩ => ⟨S4x576x1, .f32⟩
  | .hbm, ⟨41, _⟩ => ⟨S4x576x8192, .f32⟩
  | .hbm, ⟨42, _⟩ => ⟨S4x576x8192, .f32⟩
  | .hbm, ⟨43, _⟩ => ⟨S4x576x8192, .f32⟩
  | .hbm, ⟨44, _⟩ => ⟨S_, .f32⟩
  | .hbm, ⟨45, _⟩ => ⟨S4x576, .f32⟩
  | .hbm, ⟨46, _⟩ => ⟨S4x576x1, .f32⟩
  | .hbm, ⟨47, _⟩ => ⟨S4x576x8192, .f32⟩
  | .hbm, ⟨48, _⟩ => ⟨S4x576x8192, .f32⟩
  | .hbm, ⟨49, _⟩ => ⟨S4x576x8, .f32⟩
  | .hbm, ⟨50, _⟩ => ⟨S4x576x8, .i32⟩
  | .hbm, ⟨51, _⟩ => ⟨S4, .i32⟩
  | .hbm, ⟨52, _⟩ => ⟨S4x1x1, .i32⟩
  | .hbm, ⟨53, _⟩ => ⟨S576, .i32⟩
  | .hbm, ⟨54, _⟩ => ⟨S1x576x1, .i32⟩
  | .hbm, ⟨55, _⟩ => ⟨S_, .f32⟩
  | .hbm, ⟨56, _⟩ => ⟨S4x576x8192, .f32⟩
  | .hbm, ⟨57, _⟩ => ⟨S_, .i32⟩
  | .hbm, ⟨58, _⟩ => ⟨S4x1x1, .i32⟩
  | .hbm, ⟨59, _⟩ => ⟨S4x1x1, .i1⟩
  | .hbm, ⟨60, _⟩ => ⟨S_, .i32⟩
  | .hbm, ⟨61, _⟩ => ⟨S4x1x1, .i32⟩
  | .hbm, ⟨62, _⟩ => ⟨S4x1x1, .i32⟩
  | .hbm, ⟨63, _⟩ => ⟨S4x1x1, .i32⟩
  | .hbm, ⟨64, _⟩ => ⟨S_, .i32⟩
  | .hbm, ⟨65, _⟩ => ⟨S1x576x1, .i32⟩
  | .hbm, ⟨66, _⟩ => ⟨S1x576x1, .i1⟩
  | .hbm, ⟨67, _⟩ => ⟨S_, .i32⟩
  | .hbm, ⟨68, _⟩ => ⟨S1x576x1, .i32⟩
  | .hbm, ⟨69, _⟩ => ⟨S1x576x1, .i32⟩
  | .hbm, ⟨70, _⟩ => ⟨S1x576x1, .i32⟩
  | .hbm, ⟨71, _⟩ => ⟨S_, .i32⟩
  | .hbm, ⟨72, _⟩ => ⟨S4x576x8, .i32⟩
  | .hbm, ⟨73, _⟩ => ⟨S4x576x8, .i1⟩
  | .hbm, ⟨74, _⟩ => ⟨S_, .i32⟩
  | .hbm, ⟨75, _⟩ => ⟨S4x576x8, .i32⟩
  | .hbm, ⟨76, _⟩ => ⟨S4x576x8, .i32⟩
  | .hbm, ⟨77, _⟩ => ⟨S4x576x8, .i32⟩
  | .hbm, ⟨78, _⟩ => ⟨S4x576x8, .i32⟩
  | .hbm, ⟨79, _⟩ => ⟨S4x576x8, .i32⟩
  | .hbm, ⟨80, _⟩ => ⟨S4x576x8x1, .i32⟩
  | .hbm, ⟨81, _⟩ => ⟨S4x576x8x1, .i32⟩
  | .hbm, ⟨82, _⟩ => ⟨S4x576x8x1, .i32⟩
  | .hbm, ⟨83, _⟩ => ⟨S4x576x8x3, .i32⟩
  | .hbm, ⟨84, _⟩ => ⟨S_, .f32⟩
  | .hbm, ⟨85, _⟩ => ⟨S4x576x8, .f32⟩
  | .hbm, ⟨86, _⟩ => ⟨S4x576x8192, .f32⟩
  | .hbm, ⟨87, _⟩ => ⟨S4x576x8192, .f32⟩
  | .hbm, ⟨88, _⟩ => ⟨S4x576x8192, .f32⟩
  | .hbm, ⟨89, _⟩ => ⟨S4x576x64, .f32⟩
  | .hbm, ⟨90, _⟩ => ⟨S1x1x1, .f32⟩
  | .hbm, ⟨91, _⟩ => ⟨S4x576x64, .f32⟩
  | .hbm, ⟨92, _⟩ => ⟨S4x576x64, .f32⟩
  | .hbm, ⟨93, _⟩ => ⟨S4x576x8192, .f32⟩
  | .hbm, ⟨94, _⟩ => ⟨S4x576x8192, .f32⟩
  | .hbm, ⟨95, _⟩ => ⟨S_, .f32⟩
  | .hbm, ⟨96, _⟩ => ⟨S4x576, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S4x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_call1_v2 : Ref sig .tc := ⟨.hbm, 11, rfl⟩
abbrev main_v1 : Ref sig .tc := ⟨.hbm, 12, rfl⟩
abbrev main_cst_0 : Ref sig .tc := ⟨.hbm, 13, rfl⟩
abbrev main_call2_v0 : Ref sig .tc := ⟨.hbm, 14, rfl⟩
abbrev main_call2_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call3_v0 : Ref sig .tc := ⟨.hbm, 19, rfl⟩
abbrev main_call3_cst : Ref sig .tc := ⟨.hbm, 20, rfl⟩
abbrev main_call3_v1 : Ref sig .tc := ⟨.hbm, 21, rfl⟩
abbrev main_call3_v2 : Ref sig .tc := ⟨.hbm, 22, rfl⟩
abbrev main_v5 : Ref sig .tc := ⟨.hbm, 23, rfl⟩
abbrev main_cst_1 : Ref sig .tc := ⟨.hbm, 24, rfl⟩
abbrev main_call4_v0 : Ref sig .tc := ⟨.hbm, 25, rfl⟩
abbrev main_call4_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_values : Ref sig .tc := ⟨.hbm, 49, rfl⟩
abbrev main_indices : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_c : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩

abbrev nD : Nat := 1
abbrev τ : Topo := Topo.v7x

variable {F : FTy → Type} [FloatOps F]
-- ==== Proof.Blocks.lean ====
/-
  What one grid point of the fused kernel computes, as functions of the blocks it reads: the scores `y`, the
  candidates its selection network keeps, the softmax block, the entropy partial, the 0/1 top-8 block and the
  output block. Nothing is proved here; the definitions say the kernel body in a readable order.
-/
module

public import proofs.«01_k».proof.Proof.Gen.KernelIdeal.Skeleton

@[expose] public section

noncomputable section

namespace Cert.KernelIdeal.Blocks

open Idealize.ShloMosaic Idealize.SL.Sem
open Cert.KernelIdeal.Gen

variable {F : FTy → Type} [FloatOps F]

/-- The float whose bits are those of minus infinity. -/
abbrev lowest : F .f32 := Scalar.ofBits .f32 0xFF800000#32

/-- The one entry of a 1 by 1 block. -/
def only (v : Vec F S1x1 .f32) : F .f32 := v (fun _ => ⟨0, by decide +revert⟩)

/-- The scores of a block of rows `x` with perturbations `g`: normalised rows against the normalised codebook `n`,
    perturbed, times the reciprocal temperature `t`. -/
def scores (t : Vec F S1x1 .f32) (x : Vec F S128x64 .f32) (n : Vec F S8192x64 .f32) (g : Vec F S128x8192 .f32) :
    FVec F S128x8192 .f32 := k0_pay20 (only t) x n g

/-- The codebook with every row divided by its norm, the norm kept from zero. -/
def unitRows (cb : Vec F S8192x64 .f32) : FVec F S8192x64 .f32 := k0_pay18 cb

/-- The entropy before the first point. -/
def entStart : FVec F S1x1 .f32 := k0_pay19

/-- Columns `128 j … 128 j + 127` of a block of scores. -/
def slice (y : FVec F S128x8192 .f32) (j : Fin 64) : FVec F S128x128 .f32 :=
  extractStridedSlice S128x128 ![0, 128 * j.val] y ⟨rfl, fun a => by
    have := j.isLt
    fin_cases a
    · exact (by decide : 0 + 128 ≤ 128)
    · show 128 * j.val + 128 ≤ 8192; omega⟩

/-- Four columns-wise values, in the order the network keeps them. -/
structure Quad (F : FTy → Type) where
  a : FVec F S128x128 .f32
  b : FVec F S128x128 .f32
  c : FVec F S128x128 .f32
  d : FVec F S128x128 .f32

/-- The last two layers of a merge: four values into order, the first two already compared with the others. -/
def tidy (p q r s : FVec F S128x128 .f32) : Quad F where
  a := maximumf (maximumf p r) (maximumf q s)
  b := minimumf (maximumf p r) (maximumf q s)
  c := maximumf (minimumf p r) (minimumf q s)
  d := minimumf (minimumf p r) (minimumf q s)

/-- Two slices, the larger and the smaller of each pair of entries, merged with two more. -/
def merge2 (s t u v : FVec F S128x128 .f32) : Quad F :=
  tidy (maximumf s t) (minimumf s t) (minimumf u v) (maximumf u v)

/-- The four largest of two ordered quadruples, not yet in order. -/
def keep4 (A B : Quad F) : Quad F where
  a := maximumf A.a B.d
  b := maximumf A.b B.c
  c := maximumf A.c B.b
  d := maximumf A.d B.a

/-- The same, put in order. -/
def merge4 (A B : Quad F) : Quad F :=
  tidy (keep4 A B).a (keep4 A B).b (keep4 A B).c (keep4 A B).d

/-- The network's levels: sixteen quadruples of four slices each, then eight, four, two, and the last merge. -/
def level0 (y : FVec F S128x8192 .f32) (j : Fin 16) : Quad F :=
  merge2 (slice y ⟨4 * j.val, by omega⟩) (slice y ⟨4 * j.val + 1, by omega⟩)
    (slice y ⟨4 * j.val + 2, by omega⟩) (slice y ⟨4 * j.val + 3, by omega⟩)
def level1 (y : FVec F S128x8192 .f32) (j : Fin 8) : Quad F :=
  merge4 (level0 y ⟨2 * j.val, by omega⟩) (level0 y ⟨2 * j.val + 1, by omega⟩)
def level2 (y : FVec F S128x8192 .f32) (j : Fin 4) : Quad F :=
  merge4 (level1 y ⟨2 * j.val, by omega⟩) (level1 y ⟨2 * j.val + 1, by omega⟩)
def level3 (y : FVec F S128x8192 .f32) (j : Fin 2) : Quad F :=
  merge4 (level2 y ⟨2 * j.val, by omega⟩) (level2 y ⟨2 * j.val + 1, by omega⟩)
def level4 (y : FVec F S128x8192 .f32) : Quad F := keep4 (level3 y 0) (level3 y 1)

/-- The 512 candidates of each row. -/
def cand (y : FVec F S128x8192 .f32) : FVec F S128x512 .f32 :=
  concatenate S128x512 1 [⟨S128x128, (level4 y).a⟩, ⟨S128x128, (level4 y).b⟩, ⟨S128x128, (level4 y).c⟩,
    ⟨S128x128, (level4 y).d⟩] concatenates_S128x128_S128x128_S128x128_S128x128_S128x512_d1

/-- The largest entry of each row of 512, as a column. -/
def top512 (v : FVec F S128x512 .f32) : FVec F S128x1 .f32 :=
  shapeCast S128x1 (multiReduction .maximumf [1] S128 v 0xFF800000#32 reduces_S128x512_S128 (.inl rfl) rfl)
    shapeCasts_S128_S128x1

/-- The sum of each row of 8192, as a column. -/
def rowSum (v : FVec F S128x8192 .f32) : FVec F S128x1 .f32 :=
  shapeCast S128x1 (multiReduction .add [1] S128 v 0x00000000#32 reduces_S128x8192_S128 (.inl rfl) rfl)
    shapeCasts_S128_S128x1

/-- A row's maximum taken off its scores, the exponentials, their sum, its reciprocal. -/
def shifted (y : FVec F S128x8192 .f32) : FVec F S128x8192 .f32 :=
  subf y (broadcastTo S128x8192 (top512 (cand y)) broadcasts_S128x1_S128x8192)
def expo (y : FVec F S128x8192 .f32) : FVec F S128x8192 .f32 := exp (shifted y)
def total (y : FVec F S128x8192 .f32) : FVec F S128x1 .f32 := rowSum (expo y)
def recip (y : FVec F S128x8192 .f32) : FVec F S128x1 .f32 :=
  divf (broadcast S128x1 (Scalar.ofBits .f32 0x3F800000#32)) (total y)

/-- The softmax block. -/
def soft (y : FVec F S128x8192 .f32) : FVec F S128x8192 .f32 := k0_pay404 (expo y) (recip y)

/-- The running entropy after a point, from what the point before left. -/
def entNext (y : FVec F S128x8192 .f32) (prev : FVec F S1x1 .f32) : FVec F S1x1 .f32 :=
  k0_pay405 (shifted y) (expo y) (total y) prev

/-- One round of the threshold search: drop what is not below the present threshold, take the new maximum. -/
def cut (p : FVec F S128x512 .f32 × FVec F S128x1 .f32) : FVec F S128x512 .f32 × FVec F S128x1 .f32 :=
  let v := select (cmpf .olt p.1 (broadcastTo S128x512 p.2 broadcasts_S128x1_S128x512)) p.1 (broadcast S128x512 lowest)
  (v, top512 v)

/-- The threshold: the eighth distinct value from the top among the candidates of each row. -/
def threshold (y : FVec F S128x8192 .f32) : FVec F S128x1 .f32 := (cut^[7] (cand y, top512 (cand y))).2

/-- The 0/1 block of the scores that reach the threshold. -/
def reached (y : FVec F S128x8192 .f32) : FVec F S128x8192 .f32 :=
  select (cmpf .oge y (broadcastTo S128x8192 (threshold y) broadcasts_S128x1_S128x8192))
    (broadcast S128x8192 (Scalar.ofBits .f32 0x3F800000#32)) (broadcast S128x8192 (Scalar.ofBits .f32 0x00000000#32))

/-- The largest number of scores that reach the threshold in a row of the block. -/
def mostReached (y : FVec F S128x8192 .f32) : F .f32 :=
  extractAt ![0, 0, 0] (shapeCast S1x1x1 (multiReduction .maximumf [1, 2] S1
    (shapeCast S1x128x1 (rowSum (reached y)) shapeCasts_S128x1_S1x128x1) 0xFF800000#32 reduces_S1x128x1_S1 (.inl rfl) rfl)
    shapeCasts_S1_S1x1x1) inpos_S1x1x1_p0_0_0

/-- The column number of each entry. -/
def cols : IVec S128x8192 32 := iota .tc S128x8192 32 [1] iota_S128x8192_d1_w32

/-- Each row's first entry that equals the row's maximum, marked. -/
def pick (v : FVec F S128x8192 .f32) : IVec S128x8192 1 :=
  cmpi .eq cols (broadcastTo S128x8192 (shapeCast S128x1 (multiReductionI .minsi [1] S128
    (select (cmpf .oeq v (broadcastTo S128x8192 (shapeCast S128x1
      (multiReduction .maximumf [1] S128 v 0xFF800000#32 reduces_S128x8192_S128 (.inl rfl) rfl) shapeCasts_S128_S128x1)
      broadcasts_S128x1_S128x8192)) cols (broadcast S128x8192 8192#32)) 2147483647#32 reduces_S128x8192_S128 rfl)
    shapeCasts_S128_S128x1) broadcasts_S128x1_S128x8192)

/-- One round of the repair: mark the first maximum and put it out of the running. -/
def strike (p : FVec F S128x8192 .f32 × FVec F S128x8192 .f32) : FVec F S128x8192 .f32 × FVec F S128x8192 .f32 :=
  (select (pick p.2) (broadcast S128x8192 (Scalar.ofBits .f32 0x3F800000#32)) p.1,
    select (pick p.2) (broadcast S128x8192 lowest) p.2)

/-- The 0/1 block of eight rounds of the repair. -/
def repaired (y : FVec F S128x8192 .f32) : FVec F S128x8192 .f32 :=
  (strike^[8] (broadcast S128x8192 (Scalar.ofBits .f32 0x00000000#32), y)).1

/-- Whether some row of the block has more than eight scores that reach the threshold. -/
abbrev tied (y : FVec F S128x8192 .f32) : Prop :=
  Scalar.cmpi .ne (Scalar.extui (Scalar.cmpf .ogt (mostReached y) (Scalar.ofBits .f32 0x41000000#32))) 0#32 = 1#1

/-- The top-8 block: the repaired one where there is a tie, else the thresholded one. -/
def hard (y : FVec F S128x8192 .f32) : FVec F S128x8192 .f32 := if tied y then repaired y else reached y

/-- The output block: the codebook rows the top-8 block selects, added and scaled. -/
def out (s : Vec F S1x1 .f32) (cb : FVec F S8192x64 .f32) (y : FVec F S128x8192 .f32) : FVec F S128x64 .f32 :=
  k0_pay1 (only s) (k0_pay410 (hard y)) cb

end Cert.KernelIdeal.Blocks

end
-- ==== Proof.Body.lean ====
module

public import proofs.«01_k».proof.Proof.Gen.KernelIdeal.Frame
public import proofs.«01_k».proof.Proof.Gen.KernelIdeal.Skeleton
public import proofs.«01_k».proof.Proof.Blocks
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Blocks

variable {F : FTy → Type} [FloatOps F]

local notation "𝕄" => MT nD τ sig Unit (Elt F) ℕ (UR sig nD τ) ℕ

/-- The body's first branch is taken: the point is the first. -/
abbrev isFirst (i : grid0.Coords) : Prop := (Scalar.cmpi .ne (Scalar.extui (Scalar.cmpi .eq (BitVec.ofNat 32 (i 0).val) 0#32)) 0#32) = 1#1

set_option maxHeartbeats 4000000 in
/-- The body at a point that is not the first: it leaves the softmax block, the top-8 block, the output block and the
    entropy added to `e`, over the normalised codebook `n` it finds in the scratch. -/
theorem run_later (c : Dev nD) (i : grid0.Coords) (arg1 : Memref sig .tc .vmem S128x64 .f32) (harg1 : arg1.IsWhole)
    (arg2 : Memref sig .tc .vmem S128x8192 .f32) (harg2 : arg2.IsWhole) (arg3 : Memref sig .tc .vmem S8192x64 .f32) (harg3 : arg3.IsWhole)
    (arg4 : Memref sig .tc .smem S1x1 .f32) (harg4 : arg4.IsWhole) (arg5 : Memref sig .tc .smem S1x1 .f32) (harg5 : arg5.IsWhole)
    (arg6 : Memref sig .tc .vmem S128x8192 .f32) (harg6 : arg6.IsWhole) (arg7 : Memref sig .tc .vmem S128x8192 .f32) (harg7 : arg7.IsWhole)
    (arg8 : Memref sig .tc .vmem S128x64 .f32) (harg8 : arg8.IsWhole) (arg9 : Memref sig .tc .vmem S1x1 .f32) (harg9 : arg9.IsWhole)
    (arg10 : Memref sig .tc .vmem S8192x64 .f32) (harg10 : arg10.IsWhole) (hc0 : ¬isFirst i)
    (x : Vec F S128x64 .f32) (g : Vec F S128x8192 .f32) (cb : Vec F S8192x64 .f32) (t s : Vec F S1x1 .f32) (e : Vec F S1x1 .f32) (n : Vec F S8192x64 .f32) (E : Set ℕ) (K : PUnit → sProp 𝕄) :
    iprop(owns (c : Thread nD τ) arg1 fullShare x ∗ owns (c : Thread nD τ) arg2 fullShare g ∗ owns (c : Thread nD τ) arg3 fullShare cb ∗ owns (c : Thread nD τ) arg4 fullShare t ∗ owns (c : Thread nD τ) arg5 fullShare s ∗ (∃ d, owns (c : Thread nD τ) arg6 fullShare d) ∗ (∃ d, owns (c : Thread nD τ) arg7 fullShare d) ∗ (∃ d, owns (c : Thread nD τ) arg8 fullShare d) ∗ owns (c : Thread nD τ) arg9 fullShare e ∗ owns (c : Thread nD τ) arg10 fullShare n
      ∗ (iprop(owns (c : Thread nD τ) arg1 fullShare x ∗ owns (c : Thread nD τ) arg2 fullShare g ∗ owns (c : Thread nD τ) arg3 fullShare cb ∗ owns (c : Thread nD τ) arg4 fullShare t ∗ owns (c : Thread nD τ) arg5 fullShare s
          ∗ owns (c : Thread nD τ) arg6 fullShare (soft (scores t x n g)) ∗ owns (c : Thread nD τ) arg7 fullShare (hard (scores t x n g))
          ∗ owns (c : Thread nD τ) arg8 fullShare (out s cb (scores t x n g)) ∗ owns (c : Thread nD τ) arg9 fullShare (entNext (scores t x n g) e)
          ∗ owns (c : Thread nD τ) arg10 fullShare n) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hfs0
  sl_exec (disch := first | sl_exact hc0)
  sl_step
  have hx := (View.readAt_full arg1.view (harg1.unread x) inb_S128x64_S128x64_0_0).trans hf0
  have hg := (View.readAt_full arg2.view (harg2.unread g) inb_S128x8192_S128x8192_0_0).trans hf1
  have hb := (View.readAt_full arg3.view (harg3.unread cb) inb_S8192x64_S8192x64_0_0).trans hf2
  have ht := (View.readAt_full arg4.view (harg4.unread t) inb_S1x1_S1x1_0_0).trans hf3
  have hs := (View.readAt_full arg5.view (harg5.unread s) inb_S1x1_S1x1_0_0).trans hf4
  have he := (View.readAt_full arg9.view (harg9.unread e) inb_S1x1_S1x1_0_0).trans hf8
  have hn := (View.readAt_full arg10.view (harg10.unread n) inb_S8192x64_S8192x64_0_0).trans hfs0
  have hy : run_later.sl.r_2 c arg1 harg1 arg2 harg2 arg4 harg4 arg10 harg10 x g t n = scores t x n g := by
    refine Eq.trans ?_ (congr (congr (congr (congrArg k0_pay20 (congrFun ht (fun _ => ⟨0, by decide +revert⟩))) hx) hn) hg)
    rfl
  have h5 : ∀ f, arg6.view.read (Elt F) (arg6.view.writes (Elt F) f (run_later.sl.H5_1 c arg1 harg1 arg2 harg2 arg4 harg4 arg10 harg10 x g t n)) = soft (scores t x n g) := fun f =>
    (View.read_writes_full _ _ inb_S128x8192_S128x8192_0_0 _ _).trans (by rw [← hy]; sl_kernel_rfl)
  have h8 : ∀ f, arg9.view.read (Elt F) (arg9.view.writes (Elt F) f (run_later.sl.H8_1 c arg1 harg1 arg2 harg2 arg4 harg4 arg9 harg9 arg10 harg10 x g t e n)) = entNext (scores t x n g) e := fun f =>
    (View.read_writes_full _ _ inb_S1x1_S1x1_0_0 _ _).trans (by rw [← hy]; refine Eq.trans ?_ (congrArg (entNext _) he); sl_kernel_rfl)
  have hcond : (run_later.sl.v535 c arg1 harg1 arg2 harg2 arg4 harg4 arg10 harg10 x g t n = 1#1) = tied (scores t x n g) := by
    rw [← hy]
    sl_kernel_rfl
  have h6 : ∀ f, arg7.view.read (Elt F) (arg7.view.writes (Elt F) f (run_later.sl.H6_1 c arg1 harg1 arg2 harg2 arg4 harg4 arg10 harg10 x g t n)) = reached (scores t x n g) := fun f =>
    (View.read_writes_full _ _ inb_S128x8192_S128x8192_0_0 _ _).trans (by rw [← hy]; sl_kernel_rfl)
  have h6' : k0_pay409 run_later.sl.v543 (run_later.sl.r_261 c arg1 harg1 arg2 harg2 arg4 harg4 arg10 harg10 x g t n) (run_later.sl.r_262 c arg1 harg1 arg2 harg2 arg4 harg4 arg10 harg10 x g t n) (run_later.sl.r_263 c arg1 harg1 arg2 harg2 arg4 harg4 arg10 harg10 x g t n) = repaired (scores t x n g) := by
    rw [← hy]
    sl_kernel_rfl
  have h7 : arg7.view.read (Elt F) (if hc : run_later.sl.v535 c arg1 harg1 arg2 harg2 arg4 harg4 arg10 harg10 x g t n = 1#1 then
      arg7.view.writes (Elt F) f6 (⟨Rect.unit ![0, 0] S128x8192.size inb_S128x8192_S128x8192_0_0,
        k0_pay409 run_later.sl.v543 (run_later.sl.r_261 c arg1 harg1 arg2 harg2 arg4 harg4 arg10 harg10 x g t n) (run_later.sl.r_262 c arg1 harg1 arg2 harg2 arg4 harg4 arg10 harg10 x g t n) (run_later.sl.r_263 c arg1 harg1 arg2 harg2 arg4 harg4 arg10 harg10 x g t n)⟩ :: run_later.sl.H6_1 c arg1 harg1 arg2 harg2 arg4 harg4 arg10 harg10 x g t n)
      else arg7.view.writes (Elt F) f6 (run_later.sl.H6_1 c arg1 harg1 arg2 harg2 arg4 harg4 arg10 harg10 x g t n)) = hard (scores t x n g) := by
    unfold hard
    by_cases hc : run_later.sl.v535 c arg1 harg1 arg2 harg2 arg4 harg4 arg10 harg10 x g t n = 1#1
    · rw [dif_pos hc, if_pos (hcond.mp hc)]
      exact (View.read_writes_full _ _ inb_S128x8192_S128x8192_0_0 _ _).trans h6'
    · rw [dif_neg hc, if_neg (fun h => hc (hcond.mpr h))]
      exact h6 f6
  have h9 : k0_pay1 (run_later.sl.r_1 c arg5 harg5 s) (run_later.sl.r_264 c arg1 harg1 arg2 harg2 arg4 harg4 arg7 arg10 harg10 x g t n f6)
      (run_later.sl.r_265 c arg3 harg3 cb) = out s cb (scores t x n g) := by
    unfold out
    refine congr (congr (congrArg k0_pay1 ?_) ?_) hb
    · exact congrFun hs (fun _ => ⟨0, by decide +revert⟩)
    · exact congrArg k0_pay410 ((View.readAt_full arg7.view _ inb_S128x8192_S128x8192_0_0).trans h7)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact h5 _
  isplitl [H6]
  · iexists _; isplitr
    swap; · iexact H6
    ipureintro; exact h7
  isplitl [H7]
  · iexists _; isplitr
    swap; · iexact H7
    ipureintro; exact (View.read_writes_full _ _ inb_S128x64_S128x64_0_0 _ _).trans h9
  isplitl [H8]
  · iexists _; isplitr
    swap; · iexact H8
    ipureintro; exact h8 _
  iexists _; isplitr
  swap; · iexact HS0
  ipureintro; exact hfs0

set_option maxHeartbeats 4000000 in
/-- The body at the first point: it writes the normalised codebook into the scratch and starts the entropy at zero, then
    leaves what a later point leaves. -/
theorem run_first (c : Dev nD) (i : grid0.Coords) (arg1 : Memref sig .tc .vmem S128x64 .f32) (harg1 : arg1.IsWhole)
    (arg2 : Memref sig .tc .vmem S128x8192 .f32) (harg2 : arg2.IsWhole) (arg3 : Memref sig .tc .vmem S8192x64 .f32) (harg3 : arg3.IsWhole)
    (arg4 : Memref sig .tc .smem S1x1 .f32) (harg4 : arg4.IsWhole) (arg5 : Memref sig .tc .smem S1x1 .f32) (harg5 : arg5.IsWhole)
    (arg6 : Memref sig .tc .vmem S128x8192 .f32) (harg6 : arg6.IsWhole) (arg7 : Memref sig .tc .vmem S128x8192 .f32) (harg7 : arg7.IsWhole)
    (arg8 : Memref sig .tc .vmem S128x64 .f32) (harg8 : arg8.IsWhole) (arg9 : Memref sig .tc .vmem S1x1 .f32) (harg9 : arg9.IsWhole)
    (arg10 : Memref sig .tc .vmem S8192x64 .f32) (harg10 : arg10.IsWhole) (hc0 : isFirst i)
    (x : Vec F S128x64 .f32) (g : Vec F S128x8192 .f32) (cb : Vec F S8192x64 .f32) (t s : Vec F S1x1 .f32) (E : Set ℕ) (K : PUnit → sProp 𝕄) :
    iprop(owns (c : Thread nD τ) arg1 fullShare x ∗ owns (c : Thread nD τ) arg2 fullShare g ∗ owns (c : Thread nD τ) arg3 fullShare cb ∗ owns (c : Thread nD τ) arg4 fullShare t ∗ owns (c : Thread nD τ) arg5 fullShare s ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg1 fullShare x ∗ owns (c : Thread nD τ) arg2 fullShare g ∗ owns (c : Thread nD τ) arg3 fullShare cb ∗ owns (c : Thread nD τ) arg4 fullShare t ∗ owns (c : Thread nD τ) arg5 fullShare s
          ∗ owns (c : Thread nD τ) arg6 fullShare (soft (scores t x (unitRows cb) g)) ∗ owns (c : Thread nD τ) arg7 fullShare (hard (scores t x (unitRows cb) g))
          ∗ owns (c : Thread nD τ) arg8 fullShare (out s cb (scores t x (unitRows cb) g)) ∗ owns (c : Thread nD τ) arg9 fullShare (entNext (scores t x (unitRows cb) g) entStart)
          ∗ owns (c : Thread nD τ) arg10 fullShare (unitRows cb)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  have hx := (View.readAt_full arg1.view (harg1.unread x) inb_S128x64_S128x64_0_0).trans hf0
  have hg := (View.readAt_full arg2.view (harg2.unread g) inb_S128x8192_S128x8192_0_0).trans hf1
  have hb := (View.readAt_full arg3.view (harg3.unread cb) inb_S8192x64_S8192x64_0_0).trans hf2
  have ht := (View.readAt_full arg4.view (harg4.unread t) inb_S1x1_S1x1_0_0).trans hf3
  have hs := (View.readAt_full arg5.view (harg5.unread s) inb_S1x1_S1x1_0_0).trans hf4
  have he := View.readCov_full (Val := Elt F) arg9.view inb_S1x1_S1x1_0_0 inb_S1x1_S1x1_0_0 (entStart (F := F)) []
  have hn0 : k0_pay18 (arg3.view.readAt (Elt F) (Rect.unit ![0, 0] S8192x64.size inb_S8192x64_S8192x64_0_0).toLoadRect (harg3.unread cb))
      = unitRows cb := congrArg k0_pay18 hb
  have hn : arg10.view.readCov (run_first.sl.HS0_1 c arg3 harg3 cb)
      (Rect.unit ![0, 0] S8192x64.size inb_S8192x64_S8192x64_0_0).toLoadRect = unitRows cb :=
    (View.readCov_full _ _ inb_S8192x64_S8192x64_0_0 _ _).trans hn0
  have hy : run_first.sl.r_2 c arg1 harg1 arg2 harg2 arg3 harg3 arg4 harg4 arg10 x g cb t = scores t x (unitRows cb) g := by
    refine Eq.trans ?_ (congr (congr (congr (congrArg k0_pay20 (congrFun ht (fun _ => ⟨0, by decide +revert⟩))) hx) hn) hg)
    rfl
  have h5 : ∀ f, arg6.view.read (Elt F) (arg6.view.writes (Elt F) f (run_first.sl.H5_1 c arg1 harg1 arg2 harg2 arg3 harg3 arg4 harg4 arg10 x g cb t)) = soft (scores t x (unitRows cb) g) := fun f =>
    (View.read_writes_full _ _ inb_S128x8192_S128x8192_0_0 _ _).trans (by rw [← hy]; sl_kernel_rfl)
  have h8 : ∀ f, arg9.view.read (Elt F) (arg9.view.writes (Elt F) f (run_first.sl.H8_2 c arg1 harg1 arg2 harg2 arg3 harg3 arg4 harg4 arg9 arg10 x g cb t)) = entNext (scores t x (unitRows cb) g) entStart := fun f =>
    (View.read_writes_full _ _ inb_S1x1_S1x1_0_0 _ _).trans (by rw [← hy]; refine Eq.trans ?_ (congrArg (entNext _) he); sl_kernel_rfl)
  have hcond : (run_first.sl.v535 c arg1 harg1 arg2 harg2 arg3 harg3 arg4 harg4 arg10 x g cb t = 1#1) = tied (scores t x (unitRows cb) g) := by
    rw [← hy]
    sl_kernel_rfl
  have h6 : ∀ f, arg7.view.read (Elt F) (arg7.view.writes (Elt F) f (run_first.sl.H6_1 c arg1 harg1 arg2 harg2 arg3 harg3 arg4 harg4 arg10 x g cb t)) = reached (scores t x (unitRows cb) g) := fun f =>
    (View.read_writes_full _ _ inb_S128x8192_S128x8192_0_0 _ _).trans (by rw [← hy]; sl_kernel_rfl)
  have h6' : k0_pay409 run_first.sl.v543 (run_first.sl.r_261 c arg1 harg1 arg2 harg2 arg3 harg3 arg4 harg4 arg10 x g cb t) (run_first.sl.r_262 c arg1 harg1 arg2 harg2 arg3 harg3 arg4 harg4 arg10 x g cb t) (run_first.sl.r_263 c arg1 harg1 arg2 harg2 arg3 harg3 arg4 harg4 arg10 x g cb t) = repaired (scores t x (unitRows cb) g) := by
    rw [← hy]
    sl_kernel_rfl
  have h7 : arg7.view.read (Elt F) (if hc : run_first.sl.v535 c arg1 harg1 arg2 harg2 arg3 harg3 arg4 harg4 arg10 x g cb t = 1#1 then
      arg7.view.writes (Elt F) f6 (⟨Rect.unit ![0, 0] S128x8192.size inb_S128x8192_S128x8192_0_0,
        k0_pay409 run_first.sl.v543 (run_first.sl.r_261 c arg1 harg1 arg2 harg2 arg3 harg3 arg4 harg4 arg10 x g cb t) (run_first.sl.r_262 c arg1 harg1 arg2 harg2 arg3 harg3 arg4 harg4 arg10 x g cb t) (run_first.sl.r_263 c arg1 harg1 arg2 harg2 arg3 harg3 arg4 harg4 arg10 x g cb t)⟩ :: run_first.sl.H6_1 c arg1 harg1 arg2 harg2 arg3 harg3 arg4 harg4 arg10 x g cb t)
      else arg7.view.writes (Elt F) f6 (run_first.sl.H6_1 c arg1 harg1 arg2 harg2 arg3 harg3 arg4 harg4 arg10 x g cb t)) = hard (scores t x (unitRows cb) g) := by
    unfold hard
    by_cases hc : run_first.sl.v535 c arg1 harg1 arg2 harg2 arg3 harg3 arg4 harg4 arg10 x g cb t = 1#1
    · rw [dif_pos hc, if_pos (hcond.mp hc)]
      exact (View.read_writes_full _ _ inb_S128x8192_S128x8192_0_0 _ _).trans h6'
    · rw [dif_neg hc, if_neg (fun h => hc (hcond.mpr h))]
      exact h6 f6
  have h9 : k0_pay1 (run_first.sl.r_1 c arg5 harg5 s) (run_first.sl.r_264 c arg1 harg1 arg2 harg2 arg3 harg3 arg4 harg4 arg7 arg10 x g cb t f6)
      (run_first.sl.r_265 c arg3 harg3 cb) = out s cb (scores t x (unitRows cb) g) := by
    unfold out
    refine congr (congr (congrArg k0_pay1 ?_) ?_) hb
    · exact congrFun hs (fun _ => ⟨0, by decide +revert⟩)
    · exact congrArg k0_pay410 ((View.readAt_full arg7.view _ inb_S128x8192_S128x8192_0_0).trans h7)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact h5 _
  isplitl [H6]
  · iexists _; isplitr
    swap; · iexact H6
    ipureintro; exact h7
  isplitl [H7]
  · iexists _; isplitr
    swap; · iexact H7
    ipureintro; exact (View.read_writes_full _ _ inb_S128x64_S128x64_0_0 _ _).trans h9
  isplitl [H8]
  · iexists _; isplitr
    swap; · iexact H8
    ipureintro; exact h8 _
  iexists _; isplitr
  swap; · iexact HS0
  ipureintro; exact (View.read_writes_full _ _ inb_S8192x64_S8192x64_0_0 _ _).trans hn0

end Cert.KernelIdeal.Body
end
-- ==== Proof.Run.lean ====
/-
  The launch of the fused kernel: what each staging buffer and the scratch hold after every grid point, the body's
  obligation from the two body runs, the whole run, and the frame. After the first point the scratch holds the
  normalised codebook for good; the entropy cell runs through `entAt`.
-/
module

public import proofs.«01_k».proof.Proof.Body
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Blocks Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values along the grid -/

/-- The first grid point. -/
abbrev start : Fin cfg0.N := ⟨0, by rw [show cfg0.N = 18 from N_0]; decide⟩

/-- The normalised codebook, made at the first point. -/
def book (c : Dev nD) : Vec F S8192x64 .f32 := unitRows (iblk m c 2 start)

/-- The scores of the rows of point `t`. -/
def scoresAt (c : Dev nD) (t : Fin cfg0.N) : FVec F S128x8192 .f32 :=
  scores (iblk m c 3 t) (iblk m c 0 t) (book m c) (iblk m c 1 t)

/-- The entropy cell after point `n`. -/
def entAt (c : Dev nD) : (n : ℕ) → n < cfg0.N → Vec F S1x1 .f32
  | 0, h => entNext (scoresAt m c ⟨0, h⟩) entStart
  | n + 1, h => entNext (scoresAt m c ⟨n + 1, h⟩) (entAt c n (Nat.lt_of_succ_lt h))

/-- The scratch buffer as the body is handed it. -/
abbrev scratch : Memref sig .tc .vmem S8192x64 .f32 := Memref.whole cc0_scratch0

/-- What holds of the scratch before point `n`: nothing is known before the first point, afterwards it is the book. -/
def carried (c : Dev nD) : (n : ℕ) → n ≤ cfg0.N → sProp 𝕄
  | 0, _ => Pipeline.ΦA spec0 c
  | _ + 1, _ => iprop(iprop(owns (c : Thread nD τ) scratch fullShare (book m c)) ∗ (∃ r, prngReg c r))

theorem carried_first (c : Dev nD) (n : ℕ) (h : n ≤ cfg0.N) (hz : n = 0) : carried m c n h = Pipeline.ΦA spec0 c := by
  subst hz; rfl

theorem carried_next (c : Dev nD) (n : ℕ) (h : n ≤ cfg0.N) (hz : n ≠ 0) :
    carried m c n h = iprop(iprop(owns (c : Thread nD τ) scratch fullShare (book m c)) ∗ (∃ r, prngReg c r)) := by
  cases n with
  | zero => exact absurd rfl hz
  | succ n => rfl

/-- The region's own invariant, its one scratch buffer as an owned memref. -/
theorem plain_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; rfl

/-- The body's first branch is taken at point 0 only. -/
theorem isFirst_iff (t : Fin cfg0.N) : isFirst (grid0.coords t) ↔ t.val = 0 := by
  have ht : t.val < 18 := Nat.lt_of_lt_of_eq t.isLt N_0
  have e0 : (grid0.coords t 0).val = t.val / 1 % 18 := Pipeline.Grid.coords_val t 0 (by decide) rfl
  have key : isFirst (grid0.coords t) ↔ t.val % 18 = 0 := by
    simp only [isFirst, e0]
    word_cmp
  rw [key, Nat.mod_eq_of_lt ht]

/-! ## The proof data -/

/-- After point `t` an input's buffer holds its block, an output's what the body computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => soft (scoresAt m c t)
    | ⟨6, _⟩ => hard (scoresAt m c t)
    | ⟨7, _⟩ => out (iblk m c 4 t) (iblk m c 2 t) (scoresAt m c t)
    | ⟨8, _⟩ => entAt m c t.val t.isLt
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = soft (scoresAt m c t) := by dsimp only [dats]
theorem after_6 (c : Dev nD) (t : Fin cfg0.N) : (dats m 0 c).after 6 t = hard (scoresAt m c t) := by dsimp only [dats]
theorem after_7 (c : Dev nD) (t : Fin cfg0.N) :
    (dats m 0 c).after 7 t = out (iblk m c 4 t) (iblk m c 2 t) (scoresAt m c t) := by dsimp only [dats]
theorem after_8 (c : Dev nD) (t : Fin cfg0.N) : (dats m 0 c).after 8 t = entAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The entropy cell is not written back before the last point, so a later point finds what the one before left. -/
theorem before_8 (c : Dev nD) (t : Fin cfg0.N) (hz : t.val ≠ 0) (d) :
    (dats m 0 c).before 8 t d = entAt m c (t.val - 1) (Nat.lt_of_le_of_lt (Nat.sub_le _ _) t.isLt) := by
  have hN : t.val < 18 := lt_of_lt_of_eq t.isLt (show cfg0.N = 18 from N_0)
  rw [Dat.before_out_kept _ 8 rfl t hz (Bool.eq_false_iff.mpr fun h => by
    have := (flush0_8 _).mp h; dsimp only at this; omega) (fun _ => rfl) (fun _ _ => rfl)]
  dsimp only [dats]

/-- One step of the entropy cell. -/
theorem entAt_step (c : Dev nD) (t : Fin cfg0.N) (hz : t.val ≠ 0) :
    entAt m c t.val t.isLt
      = entNext (scoresAt m c t) (entAt m c (t.val - 1) (Nat.lt_of_le_of_lt (Nat.sub_le _ _) t.isLt)) := by
  obtain ⟨n, hn⟩ := t
  cases n with
  | zero => exact absurd rfl hz
  | succ n => rfl

/-! ## The body at a point -/

/-- What the body is called with at point `t`, window by window, -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it gives back. -/
def returned (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 4000000 in
/-- The body's triple at every point: by the first run at point 0, by the later run elsewhere. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    after_0, after_1, after_2, after_3, after_4, after_5, after_6, after_7, after_8,
    show (dats m 0 c).Φ t.succ = carried m c (t.val + 1) t.isLt from rfl, carried_next m c _ _ (Nat.succ_ne_zero _),
    inv_at]
  by_cases hz : t.val = 0
  · obtain rfl : t = start := Fin.ext hz
    rw [carried_first m c _ _ rfl, plain_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords start) _ _ _ _ _ _ _ _ _ _ _ _ _ _ _ _ _ _ _ _ ((isFirst_iff start).mpr rfl)
      (iblk m c 0 start) (iblk m c 1 start) (iblk m c 2 start) (iblk m c 3 start) (iblk m c 4 start) Set.univ _)
    iframe H0 H1 H2 H3 H4
    isplitl [H5]; · iexists _; iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    iframe Ho H0 H1 H2 H3 H4
    isplitl [HS Hg]
    · isplitl [HS]; · iexact HS
      iexact Hg
    isplitl [H5]; · iexact H5
    isplitl [H6]; · iexact H6
    isplitl [H7]; · iexact H7
    iexact H8
  · rw [carried_next m c _ _ hz, entAt_step m c t hz]
    simp only [before_8 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => hz ((isFirst_iff t).mp h))
      (iblk m c 0 t) (iblk m c 1 t) (iblk m c 2 t) (iblk m c 3 t) (iblk m c 4 t)
      (entAt m c (t.val - 1) (Nat.lt_of_le_of_lt (Nat.sub_le _ _) t.isLt)) (book m c) Set.univ _)
    iframe H0 H1 H2 H3 H4
    isplitl [H5]; · iexists _; iexact H5
    isplitl [H6]; · iexists _; iexact H6
    isplitl [H7]; · iexists _; iexact H7
    isplitl [H8]; · iexact H8
    isplitl [HS]; · iexact HS
    iintro ⟨H0, H1, H2, H3, H4, H5, H6, H7, H8, HS⟩
    iframe Ho H0 H1 H2 H3 H4
    isplitl [HS Hg]
    · isplitl [HS]; · iexact HS
      iexact Hg
    isplitl [H5]; · iexact H5
    isplitl [H6]; · iexact H6
    isplitl [H7]; · iexact H7
    iexact H8

/-- The body the launch runs at a point is the one above. -/
theorem body_row (t : Fin cfg0.N) : defs₀ (F := F) .tc cfg0.body (cfg0.bodyArgs t (cfg0.slots t)) = bodyAt0 t := by
  unfold defs₀; rw [Defs.onTc_tc]

/-- The obligation of the launch: the body's triple at every point. -/
theorem obligation (c : Dev nD) : BodyObligation (dats (F := F) m 0 c) (defs₀ (F := F)) Variants.none () Set.univ :=
  fun t => by
    rw [bigSep_W0, bigSep_W0, body_row]
    exact triple_restated (body_at m c t) rfl .rfl fun _ => .rfl

/-! ## The run and the frame -/

/-- The region's invariant is what is carried before the first point. -/
theorem enter (c : Dev nD) : Pipeline.ΦA spec0 c ⊢ (dats m 0 c).Φ 0 := by
  rw [show (dats m 0 c).Φ 0 = carried m c 0 (Nat.zero_le _) from rfl, carried_first m c 0 _ rfl]

/-- After the last point the book is forgotten and the region's invariant given back. -/
theorem leave (c : Dev nD) : (dats m 0 c).Φ (Fin.last cfg0.N) ⊢ Pipeline.ΦA spec0 c := by
  have hN : cfg0.N = 18 := N_0
  rw [show (dats m 0 c).Φ (Fin.last cfg0.N) = carried m c cfg0.N le_rfl from rfl,
    carried_next m c _ _ (by omega), plain_eq]
  iintro ⟨HS, Hg⟩
  isplitl [HS]
  · iexists _; iexact HS
  iexact Hg

set_option backward.isDefEq.respectTransparency.types false in
set_option maxHeartbeats 800000 in
/-- The launch: every execution ends, with every array of the pipeline at what the data says, every other buffer as the
    host operations after the region leave it, and every semaphore counter at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame: every argument array ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Run

end
-- ==== Proof.Rank.lean ====
/-
  Ranks in a finite row: an entry's rank is the number of entries that come before it when larger values come
  first and equal values come in order of position. Three ways to find the entries of rank below `k` are met here:
  a threshold that exactly `k` entries reach, `k` rounds that each strike the first largest entry, and a stable sort.
-/
module

public import Idealize.ShloMosaic.Lib.SortFacts
public import Mathlib.Data.Finset.Card
public import Mathlib.Order.BoundedOrder.Basic

@[expose] public section

namespace Cert.Rank

open Idealize.ShloMosaic

variable {n : ℕ} {α : Type*} [LinearOrder α]

/-- Entry `j` comes before entry `i`: it is larger, or equal and further left. -/
def Before (z : Fin n → α) (j i : Fin n) : Prop := z i < z j ∨ (z i = z j ∧ j < i)

instance (z : Fin n → α) (j i : Fin n) : Decidable (Before z j i) := by unfold Before; infer_instance

/-- The number of entries that come before entry `i`. -/
def rank (z : Fin n → α) (i : Fin n) : ℕ := (Finset.univ.filter fun j => Before z j i).card

variable (z : Fin n → α)

theorem before_irrefl (i : Fin n) : ¬Before z i i := by
  rintro (h | ⟨_, h⟩) <;> exact lt_irrefl _ h

theorem before_trans {i j k : Fin n} (h : Before z i j) (h' : Before z j k) : Before z i k := by
  rcases h with h | ⟨e, h⟩ <;> rcases h' with h' | ⟨e', h'⟩
  · exact .inl (h'.trans h)
  · exact .inl (e'.trans_lt h)
  · exact .inl (h'.trans_eq e)
  · exact .inr ⟨e'.trans e, h.trans h'⟩

theorem before_total {i j : Fin n} (h : i ≠ j) : Before z i j ∨ Before z j i := by
  rcases lt_trichotomy (z i) (z j) with h' | h' | h'
  · exact .inr (.inl h')
  · rcases lt_or_gt_of_ne h with h'' | h''
    · exact .inl (.inr ⟨h'.symm, h''⟩)
    · exact .inr (.inr ⟨h', h''⟩)
  · exact .inl (.inl h')

/-- An entry that comes before another has the smaller rank, -/
theorem rank_lt_of_before {i j : Fin n} (h : Before z j i) : rank z j < rank z i := by
  refine Finset.card_lt_card ⟨fun k hk => ?_, fun hs => ?_⟩
  · simp only [Finset.mem_filter, Finset.mem_univ, true_and] at hk ⊢
    exact before_trans z hk h
  · have := hs (show j ∈ _ by simpa using h)
    exact before_irrefl z j (by simpa using this)

/-- and the other way round. -/
theorem before_of_rank_lt {i j : Fin n} (h : rank z j < rank z i) : Before z j i := by
  have hne : j ≠ i := fun e => by rw [e] at h; exact lt_irrefl _ h
  exact (before_total z hne).resolve_right fun h' => absurd (rank_lt_of_before z h') (by omega)

theorem rank_injective : Function.Injective (rank z) := fun i j h => by
  by_contra hne
  rcases before_total z hne with h' | h'
  · have := rank_lt_of_before z h'; omega
  · have := rank_lt_of_before z h'; omega

theorem rank_lt (i : Fin n) : rank z i < n := by
  have h : rank z i < (Finset.univ : Finset (Fin n)).card :=
    Finset.card_lt_card ⟨Finset.subset_univ _, fun hs => before_irrefl z i (by simpa using hs (Finset.mem_univ i))⟩
  simpa using h

/-- Every rank below the length of the row is taken. -/
theorem exists_rank {s : ℕ} (hs : s < n) : ∃ i, rank z i = s := by
  have hinj : Function.Injective fun i : Fin n => (⟨rank z i, rank_lt z i⟩ : Fin n) := fun i j h =>
    rank_injective z (congrArg Fin.val h)
  obtain ⟨i, hi⟩ := (Finite.injective_iff_surjective.mp hinj) ⟨s, hs⟩
  exact ⟨i, congrArg Fin.val hi⟩

/-- Exactly `k` entries have a rank below `k`. -/
theorem card_rank_lt {k : ℕ} (hk : k ≤ n) : (Finset.univ.filter fun i => rank z i < k).card = k := by
  rw [← Finset.card_range k]
  refine Finset.card_bij (fun i _ => rank z i) (fun i hi => ?_) (fun i _ j _ h => rank_injective z h) fun s hs => ?_
  · simpa using hi
  · obtain ⟨i, hi⟩ := exists_rank z (lt_of_lt_of_le (Finset.mem_range.mp hs) hk)
    exact ⟨i, by simpa [hi] using hs, hi⟩

/-- If exactly `k` entries reach a threshold, they are the entries of rank below `k`. -/
theorem reach_iff_rank_lt {k : ℕ} {t : α} (hk : k ≤ n) (hc : (Finset.univ.filter fun i => t ≤ z i).card = k) (i : Fin n) :
    t ≤ z i ↔ rank z i < k := by
  have hsub : (Finset.univ.filter fun i => t ≤ z i) ⊆ Finset.univ.filter fun i => rank z i < k := fun i hi => by
    simp only [Finset.mem_filter, Finset.mem_univ, true_and] at hi ⊢
    rw [← hc]
    refine Finset.card_lt_card ⟨fun j hj => ?_, fun hs => ?_⟩
    · simp only [Finset.mem_filter, Finset.mem_univ, true_and] at hj ⊢
      rcases hj with hj | ⟨hj, _⟩
      · exact hi.trans hj.le
      · exact hi.trans hj.le
    · have := hs (show i ∈ _ by simpa using hi)
      exact before_irrefl z i (by simpa using this)
  have heq := Finset.eq_of_subset_of_card_le hsub (by rw [card_rank_lt z hk, hc])
  simpa using Finset.ext_iff.mp heq i

/-- Ranks depend on the order of the entries alone. -/
theorem rank_congr {β : Type*} [LinearOrder β] {w : Fin n → β} (h : ∀ i j, z i < z j ↔ w i < w j) : rank z = rank w := by
  funext i
  unfold rank
  refine congrArg Finset.card (Finset.filter_congr fun j _ => ?_)
  have he : z i = z j ↔ w i = w j := by
    simp only [le_antisymm_iff, ← not_lt, h]
  exact or_congr (h i j) (and_congr he Iff.rfl)

/-! ## Striking -/

/-- The row with every entry of rank below `s` put at the bottom. -/
def struck [OrderBot α] (s : ℕ) (i : Fin n) : α := if rank z i < s then ⊥ else z i

/-- The first largest entry of the struck row is the entry of rank `s`: no entry exceeds it, -/
theorem struck_le [OrderBot α] {s : ℕ} {i : Fin n} (hi : rank z i = s) (j : Fin n) : struck z s j ≤ z i := by
  unfold struck
  split
  · exact bot_le
  · next h =>
    by_cases e : j = i
    · rw [e]
    · have hb : Before z i j := before_of_rank_lt z (by
        have : rank z i ≠ rank z j := fun h' => e (rank_injective z h').symm
        omega)
      rcases hb with hb | ⟨hb, _⟩
      · exact hb.le
      · exact hb.le

/-- and every entry equal to it stands further right. -/
theorem le_of_struck_eq [OrderBot α] {s : ℕ} {i : Fin n} (hz : ⊥ < z i) (hi : rank z i = s) {j : Fin n}
    (h : struck z s j = z i) : i ≤ j := by
  unfold struck at h
  split at h
  · exact absurd h hz.ne
  · next h' =>
    by_cases e : j = i
    · rw [e]
    · have hb : Before z i j := before_of_rank_lt z (by
        have : rank z i ≠ rank z j := fun h' => e (rank_injective z h').symm
        omega)
      rcases hb with hb | ⟨_, hb⟩
      · exact absurd h hb.ne
      · exact hb.le

/-- The entry of rank `s` itself is still there. -/
theorem struck_self [OrderBot α] {s : ℕ} {i : Fin n} (hi : rank z i = s) : struck z s i = z i := by
  unfold struck; rw [if_neg (by omega)]

/-! ## Sorting -/

/-- A stable sort, larger first, of positions in increasing order puts each before the later ones. -/
theorem pairwise_stableSort (l : List (Fin n)) (hl : l.Pairwise (· < ·)) :
    (stableSort (fun a b => decide (z b < z a)) l).Pairwise (Before z) := by
  induction l with
  | nil => exact List.Pairwise.nil
  | cons a l ih =>
    rw [List.pairwise_cons] at hl
    have hmem : ∀ b ∈ stableSort (fun a b => decide (z b < z a)) l, a < b := fun b hb =>
      hl.1 b ((perm_stableSort _ l).mem_iff.mp hb)
    specialize ih hl.2
    unfold stableSort
    generalize stableSort (fun a b => decide (z b < z a)) l = L at ih hmem
    induction L with
    | nil => exact List.pairwise_singleton _ _
    | cons b L ih' =>
      rw [List.pairwise_cons] at ih
      unfold insertBefore
      split
      · next hb =>
        refine List.pairwise_cons.mpr ⟨fun c hc => ?_, ih' ih.2 fun c hc => hmem c (List.mem_cons_of_mem _ hc)⟩
        rcases List.mem_cons.mp ((perm_insertBefore _ a L).mem_iff.mp hc) with rfl | hc
        · exact .inl (of_decide_eq_true hb)
        · exact ih.1 c hc
      · next hb =>
        have hab : Before z a b := by
          rcases lt_or_eq_of_le (not_lt.mp fun h => hb (decide_eq_true h)) with h | h
          · exact .inl h
          · exact .inr ⟨h, hmem b List.mem_cons_self⟩
        refine List.pairwise_cons.mpr ⟨fun c hc => ?_, List.pairwise_cons.mpr ih⟩
        rcases List.mem_cons.mp hc with rfl | hc
        · exact hab
        · exact before_trans z hab (ih.1 c hc)

/-- The stable sort, larger first, takes its place `p` from the entry of rank `p`. -/
theorem rank_sortedFrom (p : Fin n) : rank z (sortedFrom (fun a b => decide (z b < z a)) p) = p.val := by
  have hpw := pairwise_stableSort z (List.finRange n) (List.pairwise_lt_finRange n)
  have hlt : ∀ p q : Fin n, p < q → Before z (sortedFrom (fun a b => decide (z b < z a)) p)
      (sortedFrom (fun a b => decide (z b < z a)) q) := fun p q h =>
    List.pairwise_iff_get.mp hpw (p.cast (length_sortPositions n _).symm) (q.cast (length_sortPositions n _).symm) h
  conv_rhs => rw [← Fin.card_Iio p]
  symm
  refine Finset.card_bij (fun q _ => sortedFrom (fun a b => decide (z b < z a)) q) (fun q hq => ?_)
    (fun a _ b _ h => sortedFrom_injective _ h) fun j hj => ?_
  · simpa using hlt q p (Finset.mem_Iio.mp hq)
  · obtain ⟨q, rfl⟩ := sortedFrom_surjective (fun a b => decide (z b < z a)) j
    have hj' := (Finset.mem_filter.mp hj).2
    refine ⟨q, Finset.mem_Iio.mpr ?_, rfl⟩
    by_contra hn
    rcases eq_or_lt_of_le (not_lt.mp hn) with e | h
    · rw [e] at hj'; exact before_irrefl z _ hj'
    · exact before_irrefl z _ (before_trans z hj' (hlt p q h))

end Cert.Rank

end
-- ==== Proof.Spec.lean ====
/-
  The quantizer one row at a time, on the extended reals: a row's score against a code, the softmax of a row of
  scores, the 0/1 row of its eight largest, the mixed code and the row's sum of `p log p`. A score is finite where
  its perturbation is, whatever the other entries are; on a finite row the softmax is a row of positive reals.
-/
module

public import Idealize.ShloMosaic.PureOps.Ideal.Laws
public import Idealize.ShloMosaic.Lib.IdealHost
public import proofs.«01_k».proof.Proof.Rank

@[expose] public section

noncomputable section

namespace Cert.Spec

open Idealize.ShloMosaic

/-! ## The mathematics -/

/-- The number a row's norm is kept above. -/
abbrev tiny : EReal := Ideal.ofBits .f32 0x2B8CBCCC#32

/-- A row divided by its norm. -/
def unit {d : ℕ} (v : Fin d → EReal) (k : Fin d) : EReal :=
  Ideal.div (v k) (max (Ideal.sqrt (∑ j, v j * v j)) tiny)

/-- The temperature, kept from zero. -/
def temper (t : EReal) : EReal := max (Ideal.ofBits .f32 0x3DCCCCCD#32) t

/-- The score of a row `x` against a code `e`, perturbed by `g`, at temperature `t`. -/
def score {d : ℕ} (x e : Fin d → EReal) (g t : EReal) : EReal :=
  Ideal.div ((∑ k, unit x k * unit e k) + g) (temper t)

variable {n : ℕ}

/-- The largest score of a row. -/
def peak (z : Fin n → EReal) : EReal := Finset.univ.sup z

/-- The exponential of a score, the largest taken off first. -/
def weight (z : Fin n → EReal) (i : Fin n) : EReal := Ideal.exp (z i - peak z)

/-- The softmax of a row. -/
def softR (z : Fin n → EReal) (i : Fin n) : EReal := Ideal.div (weight z i) (∑ j, weight z j)

/-- One at the eight largest scores of a row, equal ones taken from the left; zero elsewhere. -/
def hardR (z : Fin n → EReal) (i : Fin n) : EReal := if Rank.rank z i < 8 then 1 else 0

/-- The selected codes' entries, added and scaled. -/
def mixed (z : Fin n → EReal) (e : Fin n → EReal) (s : EReal) : EReal := (∑ i, hardR z i * e i) * s

/-- A row's sum of `p log p`. -/
def plogp (z : Fin n → EReal) : EReal := ∑ i, softR z i * Ideal.log (softR z i)

/-! ## Finite rows -/

/-- A row all of whose entries are real. -/
def Real? (z : Fin n → EReal) : Prop := ∀ i, ∃ r : ℝ, z i = r

/-- A finite sum of reals is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real row is a row of reals. -/
theorem Real?.lift {z : Fin n → EReal} (hz : Real? z) : ∃ w : Fin n → ℝ, z = fun i => (w i : EReal) :=
  ⟨fun i => (hz i).choose, funext fun i => (hz i).choose_spec⟩

/-- The largest score is one of the scores. -/
theorem peak_mem [NeZero n] (z : Fin n → EReal) : ∃ i, peak z = z i := by
  obtain ⟨i, -, h⟩ := Finset.exists_mem_eq_sup (Finset.univ : Finset (Fin n)) ⟨0, Finset.mem_univ _⟩ z
  exact ⟨i, h⟩

/-- The larger of two reals. -/
theorem coe_max (a b : ℝ) : ((max a b : ℝ) : EReal) = max (a : EReal) b := EReal.coe_strictMono.monotone.map_max

/-- The softmax of a real row, as real numbers: weights `e`, all positive, with total `S` and largest score `p`. -/
theorem weights [NeZero n] {z : Fin n → EReal} (hz : Real? z) :
    ∃ (w : Fin n → ℝ) (p : ℝ), (∀ i, z i = w i) ∧ peak z = p ∧
      (∀ i, weight z i = (Real.exp (w i - p) : ℝ)) ∧
      (∑ j, weight z j = (∑ j, Real.exp (w j - p) : ℝ)) ∧ 0 < ∑ j, Real.exp (w j - p) := by
  obtain ⟨w, rfl⟩ := hz.lift
  obtain ⟨i0, h0⟩ := peak_mem fun i => (w i : EReal)
  have hw : ∀ i, weight (fun i => (w i : EReal)) i = (Real.exp (w i - w i0) : ℝ) := fun i => by
    rw [weight, h0, ← EReal.coe_sub, Ideal.exp_coe]
  exact ⟨w, w i0, fun _ => rfl, h0, hw, by rw [coe_sum]; exact Finset.sum_congr rfl fun j _ => hw j,
    Finset.sum_pos (fun j _ => Real.exp_pos _) ⟨0, Finset.mem_univ _⟩⟩

/-- Division of reals by a nonzero real. -/
theorem div_real (a : ℝ) {b : ℝ} (hb : b ≠ 0) : Ideal.div (a : EReal) b = ((a / b : ℝ) : EReal) := by
  rw [Ideal.div_coe hb, ← EReal.coe_mul, mul_one_div]

/-- Each softmax entry of a real row is a positive real, and a larger score has a larger one. -/
theorem softR_real [NeZero n] {z : Fin n → EReal} (hz : Real? z) :
    ∃ q : Fin n → ℝ, (∀ i, softR z i = q i) ∧ (∀ i, 0 < q i) ∧ ∀ i j, z i < z j ↔ q i < q j := by
  obtain ⟨w, p, hw, -, he, hS, hpos⟩ := weights hz
  refine ⟨fun i => Real.exp (w i - p) / ∑ j, Real.exp (w j - p), fun i => ?_, fun i => by positivity, fun i j => ?_⟩
  · rw [softR, he, hS, div_real _ hpos.ne']
  · rw [hw, hw, EReal.coe_lt_coe_iff]
    show _ ↔ _ / _ < _ / _
    rw [div_lt_div_iff_of_pos_right hpos, Real.exp_lt_exp, sub_lt_sub_iff_right]

/-- A softmax entry is the weight times the reciprocal of the weights' sum. -/
theorem softR_eq_mul [NeZero n] {z : Fin n → EReal} (hz : Real? z) (i : Fin n) :
    weight z i * Ideal.div 1 (∑ j, weight z j) = softR z i := by
  obtain ⟨w, p, -, -, he, hS, hpos⟩ := weights hz
  rw [softR, he, hS, Ideal.div_coe hpos.ne', Ideal.div_coe hpos.ne', one_mul]

/-- The eight largest scores of a row are the eight largest softmax entries. -/
theorem rank_softR [NeZero n] {z : Fin n → EReal} (hz : Real? z) : Rank.rank (softR z) = Rank.rank z := by
  obtain ⟨q, hq, -, hlt⟩ := softR_real hz
  exact Rank.rank_congr _ fun i j => by rw [hq, hq, EReal.coe_lt_coe_iff, hlt]

/-- A row's sum of `p log p` from the weights `e`, their total `S` and the shifted scores: `∑ e (z - max) / S - log S`.
    It is real. -/
theorem plogp_eq [NeZero n] {z : Fin n → EReal} (hz : Real? z) :
    ((∑ i, weight z i * (z i - peak z)) * Ideal.div 1 (∑ j, weight z j) - Ideal.log (∑ j, weight z j) = plogp z) ∧
      ∃ r : ℝ, plogp z = r := by
  obtain ⟨w, p, hw, hp, he, hS, hpos⟩ := weights hz
  have hl : ∀ i, softR z i * Ideal.log (softR z i) =
      ((Real.exp (w i - p) / (∑ j, Real.exp (w j - p)) * (w i - p - Real.log (∑ j, Real.exp (w j - p))) : ℝ) : EReal) := by
    intro i
    have hq : 0 < Real.exp (w i - p) / ∑ j, Real.exp (w j - p) := by positivity
    rw [softR, he, hS, div_real _ hpos.ne', Ideal.log_coe, if_neg (not_le.mpr hq), ← EReal.coe_mul,
      Real.log_div (Real.exp_pos _).ne' hpos.ne', Real.log_exp]
  have hr : plogp z = ((∑ i, Real.exp (w i - p) / (∑ j, Real.exp (w j - p)) *
      (w i - p - Real.log (∑ j, Real.exp (w j - p))) : ℝ) : EReal) := by
    rw [plogp, coe_sum]
    exact Finset.sum_congr rfl fun i _ => hl i
  refine ⟨?_, _, hr⟩
  have h1 : ∑ i, weight z i * (z i - peak z) = ((∑ i, Real.exp (w i - p) * (w i - p) : ℝ) : EReal) := by
    rw [coe_sum]
    exact Finset.sum_congr rfl fun i _ => by rw [he, hw, hp, ← EReal.coe_sub, ← EReal.coe_mul]
  rw [hr, h1, hS, Ideal.log_coe, if_neg (not_le.mpr hpos), ← EReal.coe_one, div_real _ hpos.ne', ← EReal.coe_mul,
    ← EReal.coe_sub, EReal.coe_eq_coe_iff]
  have hd : ∀ L : ℝ, ∑ i, Real.exp (w i - p) / (∑ j, Real.exp (w j - p)) * (w i - p - L) =
      (∑ i, Real.exp (w i - p) * (w i - p)) * (1 / ∑ j, Real.exp (w j - p)) -
        (∑ i, Real.exp (w i - p)) * ((1 / ∑ j, Real.exp (w j - p)) * L) := by
    intro L
    rw [Finset.sum_mul, Finset.sum_mul, ← Finset.sum_sub_distrib]
    exact Finset.sum_congr rfl fun i _ => by ring
  rw [hd, ← mul_assoc, mul_one_div_cancel hpos.ne', one_mul, mul_one_div]

/-! ## Scores are finite -/

/-- A square is not negative. -/
theorem sq_nonneg (a : EReal) : 0 ≤ a * a := by
  rcases le_total 0 a with h | h
  · exact mul_nonneg h h
  · exact EReal.mul_nonneg_iff.mpr (Or.inr ⟨h, h⟩)

/-- The norm's floor is a positive real. -/
theorem tiny_real : ∃ r : ℝ, 0 < r ∧ tiny = r := by
  refine ⟨_, ?_, by simp [tiny, Ideal.ofBits, Ideal.ieee]; rfl⟩
  positivity

/-- A normalised row is real, whatever the row is: an infinite entry makes the norm infinite and the quotients zero. -/
theorem unit_real {d : ℕ} (v : Fin d → EReal) (k : Fin d) : ∃ r : ℝ, unit v k = r := by
  obtain ⟨e, he, hE⟩ := tiny_real
  rw [unit, hE]
  by_cases h : ∀ j, ∃ r : ℝ, v j = r
  · obtain ⟨w, rfl⟩ := Real?.lift h
    simp only [← EReal.coe_mul, ← coe_sum, Ideal.sqrt_coe]
    rw [if_neg (not_lt.mpr (Finset.sum_nonneg fun j _ => mul_self_nonneg _)), ← coe_max,
      div_real _ (lt_of_lt_of_le he (le_max_right _ _)).ne']
    exact ⟨_, rfl⟩
  · push Not at h
    obtain ⟨j, hj⟩ := h
    have htop : v j * v j = ⊤ := by
      induction hv : v j using EReal.rec with
      | bot => simp
      | top => simp
      | coe r => exact absurd hv (hj r)
    have hs : ∑ j, v j * v j = ⊤ :=
      top_le_iff.mp (htop ▸ Finset.single_le_sum (f := fun j => v j * v j) (fun j _ => sq_nonneg _) (Finset.mem_univ j))
    rw [hs]
    refine ⟨0, ?_⟩
    rw [Ideal.sqrt_top, max_eq_left le_top, Ideal.div, if_neg (by simp), EReal.inv_top, mul_zero, EReal.coe_zero]

/-- The temperature is a positive real or infinite. -/
theorem temper_cases (t : EReal) : (∃ r : ℝ, 0 < r ∧ temper t = r) ∨ temper t = ⊤ := by
  have h0 : ∃ r : ℝ, 0 < r ∧ Ideal.ofBits .f32 0x3DCCCCCD#32 = (r : EReal) := by
    refine ⟨_, ?_, by simp [Ideal.ofBits, Ideal.ieee]; rfl⟩
    positivity
  obtain ⟨r, hr, h0⟩ := h0
  rw [temper, h0]
  induction t using EReal.rec with
  | bot => exact .inl ⟨r, hr, by simp⟩
  | top => exact .inr (by simp)
  | coe s => exact .inl ⟨max r s, lt_of_lt_of_le hr (le_max_left _ _), (coe_max _ _).symm⟩

/-- Dividing by the temperature is multiplying by its reciprocal. -/
theorem mul_recip (a t : EReal) : a * Ideal.div 1 (temper t) = Ideal.div a (temper t) := by
  rcases temper_cases t with ⟨r, hr, h⟩ | h
  · rw [h, Ideal.div_coe hr.ne', Ideal.div_coe hr.ne', one_mul]
  · rw [h, Ideal.div, Ideal.div, if_neg (by simp), if_neg (by simp), one_mul]

/-- A score is real where its perturbation is. -/
theorem score_real {d : ℕ} (x e : Fin d → EReal) (g : ℝ) (t : EReal) : ∃ r : ℝ, score x e g t = r := by
  obtain ⟨u, hu⟩ := Real?.lift fun k => unit_real x k
  obtain ⟨v, hv⟩ := Real?.lift fun k => unit_real e k
  have hs : (∑ k, unit x k * unit e k) + (g : EReal) = ((∑ k, u k * v k + g : ℝ) : EReal) := by
    rw [EReal.coe_add, coe_sum]
    congr 1
    exact Finset.sum_congr rfl fun k _ => by rw [congrFun hu k, congrFun hv k, EReal.coe_mul]
  rw [score, hs]
  rcases temper_cases t with ⟨r, hr, h⟩ | h
  · exact ⟨_, by rw [h, div_real _ hr.ne']⟩
  · exact ⟨0, by rw [h, Ideal.div, if_neg (by simp), EReal.inv_top, mul_zero, EReal.coe_zero]⟩

end Cert.Spec

end
-- ==== Proof.Rows.lean ====
/-
  The whole problem a row at a time: the scores of one row against every code, and that they are finite where the
  row's perturbations are.
-/
module

public import proofs.«01_k».proof.Proof.Spec

@[expose] public section

noncomputable section

namespace Cert.Spec

open Idealize.ShloMosaic

/-- The scores of a row `x` against every code of the codebook `cb`, perturbed by `g`, at temperature `t`. -/
def scoreRow (x : Fin 64 → EReal) (cb : Fin 8192 → Fin 64 → EReal) (g : Fin 8192 → EReal) (t : EReal) : Fin 8192 → EReal :=
  fun i => score x (cb i) (g i) t

/-- They are real where the perturbations are. -/
theorem scoreRow_real (x : Fin 64 → EReal) (cb : Fin 8192 → Fin 64 → EReal) {g : Fin 8192 → EReal} (hg : Real? g)
    (t : EReal) : Real? (scoreRow x cb g t) := fun i => by
  obtain ⟨r, hr⟩ := hg i
  unfold scoreRow
  rw [hr]
  exact score_real x (cb i) r t

/-- Adding and taking off a real softmax entry leaves the 0/1 entry. -/
theorem soft_add_sub {z : Fin 8192 → EReal} (hz : Real? z) (i : Fin 8192) :
    softR z i + (hardR z i - softR z i) = hardR z i := by
  obtain ⟨q, hq, -, -⟩ := softR_real hz
  have h : ∃ h : ℝ, hardR z i = h := by
    unfold hardR
    split
    · exact ⟨1, by simp⟩
    · exact ⟨0, by simp⟩
  obtain ⟨h, hh⟩ := h
  rw [hq, hh, ← EReal.coe_sub, ← EReal.coe_add, add_sub_cancel]

/-- A finite sum of real numbers is a real number. -/
theorem sum_real {n : ℕ} (f : Fin n → EReal) (h : ∀ i, ∃ r : ℝ, f i = r) : ∃ r : ℝ, ∑ i, f i = r := by
  choose g hg using h
  exact ⟨∑ i, g i, by rw [coe_sum]; exact Finset.sum_congr rfl fun i _ => hg i⟩

/-- Taking one more real number off a negated one. -/
theorem neg_step {a b : EReal} (ha : ∃ r : ℝ, a = r) (hb : ∃ r : ℝ, b = r) : -a + (0 - b) = -(a + b) := by
  obtain ⟨x, rfl⟩ := ha
  obtain ⟨y, rfl⟩ := hb
  rw [zero_sub, ← EReal.coe_neg, ← EReal.coe_neg, ← EReal.coe_add, ← EReal.coe_add, ← EReal.coe_neg]
  exact congrArg _ (by ring)

end Cert.Spec

end
-- ==== Proof.Reads.lean ====
/-
  The blocks the kernel reads, as parts of its arguments: point `t` handles the flat rows `128 t .. 128 t + 127`, and flat
  row `R` is position `R % 576` of batch `R / 576`.
-/
module

public import proofs.«01_k».proof.Proof.Run
public import proofs.«01_k».proof.Proof.Rows
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Arrays

open Idealize.ShloMosaic Idealize.ShloMosaic.TcCoe Idealize.ShloMosaic.Tactic Idealize.SL.Sem
open Cert.KernelIdeal.Gen Cert.KernelIdeal.Blocks Cert.KernelIdeal.Run

variable (m : (ℓ : Loc nD τ sig) → Buf (Elt Ideal) ℓ) (c : Dev nD)

/-- The inputs' flat positions along the grid: rows by the point, the codebook and the two cells whole. -/
theorem place : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The flat row of row `r` of point `t`. -/
def flat (t : Fin cfg0.N) (r : Fin 128) : Fin 2304 :=
  ⟨128 * t.val + r.val, by have : t.val < 18 := lt_of_lt_of_eq t.isLt N_0; omega⟩

/-- The batch of a flat row. -/
def batch (R : Fin 2304) : Fin 4 := ⟨R.val / 576, by omega⟩
/-- The position of a flat row in its batch. -/
def spot (R : Fin 2304) : Fin 576 := ⟨R.val % 576, by omega⟩

/-- A batch and a position are those of the flat row they make. -/
theorem batch_spot (R : Fin 2304) : (batch R).val * 576 + (spot R).val = R.val := by
  unfold batch spot; dsimp only; omega

/-- A batched array flattened to rows, at an index. -/
theorem flatten_at {n : ℕ} (x : (Shape.mk 3 ![4, 576, n]).Idx → EReal)
    (h : (Shape.mk 3 ![4, 576, n]).ShapeCasts ⟨2, ![2304, n]⟩) (R : Fin 2304) (k : Fin n) :
    shapeCast ⟨2, ![2304, n]⟩ x h (ix2 R k) = x (ix3 (batch R) (spot R) k) := by
  refine shapeCast_apply x h _ _ ?_
  rw [Shape.rowMajor_val_three, Shape.rowMajor_val_two]
  exact congrArg (fun a => a * n + k.val) (batch_spot R)

/-- Rows put back into batches, at the place of a flat row. -/
theorem unflatten_at {n : ℕ} (x : (Shape.mk 2 ![2304, n]).Idx → EReal)
    (h : (Shape.mk 2 ![2304, n]).ShapeCasts ⟨3, ![4, 576, n]⟩) (R : Fin 2304) (k : Fin n) :
    shapeCast ⟨3, ![4, 576, n]⟩ x h (ix3 (batch R) (spot R) k) = x (ix2 R k) := by
  refine shapeCast_apply x h _ _ ?_
  rw [Shape.rowMajor_val_three, Shape.rowMajor_val_two]
  exact congrArg (fun a => a * n + k.val) (batch_spot R).symm

/-! ## The arguments and what the host makes of them before the launch -/

/-- The points to be quantised. -/
abbrev points : FVec Ideal S4x576x64 .f32 := m ((c : Thread nD τ).loc main_arg0)
/-- The codebook. -/
abbrev codes : FVec Ideal S8192x64 .f32 := m ((c : Thread nD τ).loc main_arg1)
/-- The output's scale. -/
abbrev scale : FVec Ideal S1 .f32 := m ((c : Thread nD τ).loc main_arg2)
/-- The temperature before its floor. -/
abbrev heat : FVec Ideal S_ .f32 := m ((c : Thread nD τ).loc main_arg3)
/-- The noise. -/
abbrev noise : FVec Ideal S4x576x8192 .f32 := m ((c : Thread nD τ).loc main_arg4)

theorem v4_eq : (V m c main_v4 : FVec Ideal S2304x64 .f32)
    = shapeCast S2304x64 (points m c) shapeCasts_S4x576x64_S2304x64 := by
  entry_read; rfl
theorem v5_eq : (V m c main_v5 : FVec Ideal S2304x8192 .f32)
    = shapeCast S2304x8192 (noise m c) shapeCasts_S4x576x8192_S2304x8192 := by
  entry_read; rfl
theorem v3_eq : (V m c main_v3 : FVec Ideal S1x1 .f32) = shapeCast S1x1 (scale m c) shapeCasts_S1_S1x1 := by
  entry_read; rfl
theorem v2_eq : (V m c main_v2 : FVec Ideal S1x1 .f32)
    = shapeCast S1x1 (Host.divf (constant S_ .f32 0x3F800000#32) (maximumf (constant S_ .f32 0x3DCCCCCD#32) (heat m c)))
        shapeCasts_S_S1x1 := by
  entry_read; rfl

/-! ## The blocks -/

/-- The block of points holds the rows of the point. -/
theorem x_at (t : Fin cfg0.N) (r : Fin 128) (k : Fin 64) : (iblk m c 0 t : FVec Ideal S128x64 .f32) (ix2 r k)
    = points m c (ix3 (batch (flat t r)) (spot (flat t r)) k) := by
  rw [← flatten_at (points m c) shapeCasts_S4x576x64_S2304x64 (flat t r) k, ← v4_eq]
  blk_ext [iblk, flat, place t]

/-- So does the block of noise. -/
theorem g_at (t : Fin cfg0.N) (r : Fin 128) (i : Fin 8192) : (iblk m c 1 t : FVec Ideal S128x8192 .f32) (ix2 r i)
    = noise m c (ix3 (batch (flat t r)) (spot (flat t r)) i) := by
  rw [← flatten_at (noise m c) shapeCasts_S4x576x8192_S2304x8192 (flat t r) i, ← v5_eq]
  blk_ext [iblk, flat, place t]

/-- The codebook is read whole. -/
theorem e_at (t : Fin cfg0.N) (i : Fin 8192) (k : Fin 64) :
    (iblk m c 2 t : FVec Ideal S8192x64 .f32) (ix2 i k) = codes m c (ix2 i k) := by
  rw [codes, ← V_main_arg1 m c]
  blk_ext [iblk, place t]

/-- The first cell holds the reciprocal of the floored temperature. -/
theorem recip_temp (t : Fin cfg0.N) : only (iblk m c 3 t) = Ideal.div 1 (Spec.temper (heat m c ix0)) := by
  have h : (V m c main_v2 : FVec Ideal S1x1 .f32) (ix2 0 0) = Ideal.div 1 (Spec.temper (heat m c ix0)) := by
    rw [v2_eq]; pointwise [Spec.temper]
  rw [← h]; unfold only
  blk_ext [iblk, place t]

/-- The second cell holds the scale. -/
theorem scale_cell (t : Fin cfg0.N) : only (iblk m c 4 t) = scale m c (ix1 0) := by
  have h : (V m c main_v3 : FVec Ideal S1x1 .f32) (ix2 0 0) = scale m c (ix1 0) := by
    rw [v3_eq]; pointwise
  rw [← h]; unfold only
  blk_ext [iblk, place t]

end Cert.KernelIdeal.Arrays

end
-- ==== Proof.Network.lean ====
/-
  The selection network at Ideal: every candidate it keeps for a row is one of the row's scores, and every score of
  the row is at most some candidate. So the largest candidate is the row's largest score.
-/
module

public import proofs.«01_k».proof.Proof.Blocks
public import proofs.«01_k».proof.Proof.Spec
public import Idealize.ShloMosaic.Lib.Pointwise
public import Idealize.ShloMosaic.Lib.ValueIdx

@[expose] public section

set_option maxRecDepth 16384

noncomputable section

namespace Cert.KernelIdeal.Blocks

open Idealize.ShloMosaic Idealize.SL.Sem
open Cert.KernelIdeal.Gen

/-- Row `r` of a block of scores. -/
def rowOf (y : FVec Ideal S128x8192 .f32) (r : Fin 128) : Fin 8192 → EReal := fun i => y (ix2 r i)

/-- The float of minus infinity is the least extended real. -/
theorem lowest_eq : Ideal.ofBits .f32 0xFF800000#32 = ⊥ := by simp [Ideal.ofBits, Ideal.ieee]

/-- Some entry of the row is `v`. -/
def Among {n : ℕ} (z : Fin n → EReal) (v : EReal) : Prop := ∃ i, v = z i

theorem Among.max {n : ℕ} {z : Fin n → EReal} {u v : EReal} (hu : Among z u) (hv : Among z v) : Among z (max u v) := by
  rcases max_choice u v with h | h <;> rw [h] <;> assumption

theorem Among.min {n : ℕ} {z : Fin n → EReal} {u v : EReal} (hu : Among z u) (hv : Among z v) : Among z (min u v) := by
  rcases min_choice u v with h | h <;> rw [h] <;> assumption

/-- All four entries at a row and lane are among the row's scores. -/
def Kept (z : Fin 8192 → EReal) (Q : Quad Ideal) (r l : Fin 128) : Prop :=
  Among z (Q.a (ix2 r l)) ∧ Among z (Q.b (ix2 r l)) ∧ Among z (Q.c (ix2 r l)) ∧ Among z (Q.d (ix2 r l))

section
variable (z : Fin 8192 → EReal) (r l : Fin 128)

theorem kept_tidy (p q s t : FVec Ideal S128x128 .f32) (hp : Among z (p (ix2 r l))) (hq : Among z (q (ix2 r l)))
    (hs : Among z (s (ix2 r l))) (ht : Among z (t (ix2 r l))) : Kept z (tidy p q s t) r l :=
  ⟨(hp.max hs).max (hq.max ht), (hp.max hs).min (hq.max ht), (hp.min hs).max (hq.min ht), (hp.min hs).min (hq.min ht)⟩

theorem kept_merge2 (s t u v : FVec Ideal S128x128 .f32) (hs : Among z (s (ix2 r l))) (ht : Among z (t (ix2 r l)))
    (hu : Among z (u (ix2 r l))) (hv : Among z (v (ix2 r l))) : Kept z (merge2 s t u v) r l :=
  kept_tidy z r l _ _ _ _ (hs.max ht) (hs.min ht) (hu.min hv) (hu.max hv)

theorem kept_keep4 {A B : Quad Ideal} (hA : Kept z A r l) (hB : Kept z B r l) : Kept z (keep4 A B) r l :=
  ⟨hA.1.max hB.2.2.2, hA.2.1.max hB.2.2.1, hA.2.2.1.max hB.2.1, hA.2.2.2.max hB.1⟩

theorem kept_merge4 {A B : Quad Ideal} (hA : Kept z A r l) (hB : Kept z B r l) : Kept z (merge4 A B) r l :=
  have h := kept_keep4 z r l hA hB
  kept_tidy z r l _ _ _ _ h.1 h.2.1 h.2.2.1 h.2.2.2

/-- The first entry of a merge of two quadruples is at least the first entry of each. -/
theorem le_merge4 (A B : Quad Ideal) :
    A.a (ix2 r l) ≤ (merge4 A B).a (ix2 r l) ∧ B.a (ix2 r l) ≤ (merge4 A B).a (ix2 r l) :=
  ⟨le_trans (le_max_left (A.a (ix2 r l)) (B.d (ix2 r l))) (le_trans (le_max_left _ _) (le_max_left _ _)),
    le_trans (le_max_right (A.d (ix2 r l)) (B.a (ix2 r l))) (le_trans (le_max_right _ _) (le_max_right _ _))⟩

/-- The first entry of a merge of four slices is at least each of them. -/
theorem le_merge2 (s t u v : FVec Ideal S128x128 .f32) :
    s (ix2 r l) ≤ (merge2 s t u v).a (ix2 r l) ∧ t (ix2 r l) ≤ (merge2 s t u v).a (ix2 r l) ∧
      u (ix2 r l) ≤ (merge2 s t u v).a (ix2 r l) ∧ v (ix2 r l) ≤ (merge2 s t u v).a (ix2 r l) := by
  have h1 : max (s (ix2 r l)) (t (ix2 r l)) ≤ (merge2 s t u v).a (ix2 r l) :=
    le_trans (le_max_left _ (min (u (ix2 r l)) (v (ix2 r l)))) (le_max_left _ _)
  have h2 : max (u (ix2 r l)) (v (ix2 r l)) ≤ (merge2 s t u v).a (ix2 r l) :=
    le_trans (le_max_right (min (s (ix2 r l)) (t (ix2 r l))) _) (le_max_right _ _)
  exact ⟨le_trans (le_max_left _ _) h1, le_trans (le_max_right _ _) h1, le_trans (le_max_left _ _) h2,
    le_trans (le_max_right _ _) h2⟩

end

variable (y : FVec Ideal S128x8192 .f32) (r l : Fin 128)

/-- A slice reads its columns of the block. -/
theorem slice_at (j : Fin 64) : slice y j (ix2 r l) = y (ix2 r ⟨128 * j.val + l.val, by omega⟩) := by
  pointwise [slice]

theorem among_slice (j : Fin 64) : Among (rowOf y r) (slice y j (ix2 r l)) := ⟨_, slice_at y r l j⟩

theorem kept_level0 (j : Fin 16) : Kept (rowOf y r) (level0 y j) r l :=
  kept_merge2 _ r l _ _ _ _ (among_slice ..) (among_slice ..) (among_slice ..) (among_slice ..)
theorem kept_level1 (j : Fin 8) : Kept (rowOf y r) (level1 y j) r l :=
  kept_merge4 _ r l (kept_level0 ..) (kept_level0 ..)
theorem kept_level2 (j : Fin 4) : Kept (rowOf y r) (level2 y j) r l :=
  kept_merge4 _ r l (kept_level1 ..) (kept_level1 ..)
theorem kept_level3 (j : Fin 2) : Kept (rowOf y r) (level3 y j) r l :=
  kept_merge4 _ r l (kept_level2 ..) (kept_level2 ..)
theorem kept_level4 : Kept (rowOf y r) (level4 y) r l := kept_keep4 _ r l (kept_level3 ..) (kept_level3 ..)

/-- Every slice is at most the first entry of the quadruple it went into, at each level. -/
theorem le_level0 (k : Fin 64) (j : Fin 16) (h : k.val / 4 = j.val) :
    slice y k (ix2 r l) ≤ (level0 y j).a (ix2 r l) := by
  have hh := le_merge2 r l (slice y ⟨4 * j.val, by omega⟩) (slice y ⟨4 * j.val + 1, by omega⟩)
    (slice y ⟨4 * j.val + 2, by omega⟩) (slice y ⟨4 * j.val + 3, by omega⟩)
  obtain h0 | h0 | h0 | h0 : k.val = 4 * j.val ∨ k.val = 4 * j.val + 1 ∨ k.val = 4 * j.val + 2 ∨
    k.val = 4 * j.val + 3 := by omega
  · rw [show k = ⟨4 * j.val, by omega⟩ from Fin.ext h0]; exact hh.1
  · rw [show k = ⟨4 * j.val + 1, by omega⟩ from Fin.ext h0]; exact hh.2.1
  · rw [show k = ⟨4 * j.val + 2, by omega⟩ from Fin.ext h0]; exact hh.2.2.1
  · rw [show k = ⟨4 * j.val + 3, by omega⟩ from Fin.ext h0]; exact hh.2.2.2

theorem le_level1 (k : Fin 64) (j : Fin 8) (h : k.val / 8 = j.val) :
    slice y k (ix2 r l) ≤ (level1 y j).a (ix2 r l) := by
  have hh := le_merge4 r l (level0 y ⟨2 * j.val, by omega⟩) (level0 y ⟨2 * j.val + 1, by omega⟩)
  obtain h0 | h0 : k.val / 4 = 2 * j.val ∨ k.val / 4 = 2 * j.val + 1 := by omega
  · exact le_trans (le_level0 y r l k _ h0) hh.1
  · exact le_trans (le_level0 y r l k _ h0) hh.2

theorem le_level2 (k : Fin 64) (j : Fin 4) (h : k.val / 16 = j.val) :
    slice y k (ix2 r l) ≤ (level2 y j).a (ix2 r l) := by
  have hh := le_merge4 r l (level1 y ⟨2 * j.val, by omega⟩) (level1 y ⟨2 * j.val + 1, by omega⟩)
  obtain h0 | h0 : k.val / 8 = 2 * j.val ∨ k.val / 8 = 2 * j.val + 1 := by omega
  · exact le_trans (le_level1 y r l k _ h0) hh.1
  · exact le_trans (le_level1 y r l k _ h0) hh.2

theorem le_level3 (k : Fin 64) (j : Fin 2) (h : k.val / 32 = j.val) :
    slice y k (ix2 r l) ≤ (level3 y j).a (ix2 r l) := by
  have hh := le_merge4 r l (level2 y ⟨2 * j.val, by omega⟩) (level2 y ⟨2 * j.val + 1, by omega⟩)
  obtain h0 | h0 : k.val / 16 = 2 * j.val ∨ k.val / 16 = 2 * j.val + 1 := by omega
  · exact le_trans (le_level2 y r l k _ h0) hh.1
  · exact le_trans (le_level2 y r l k _ h0) hh.2

theorem le_level4 (k : Fin 64) :
    slice y k (ix2 r l) ≤ (level4 y).a (ix2 r l) ∨ slice y k (ix2 r l) ≤ (level4 y).d (ix2 r l) := by
  obtain h0 | h0 : k.val / 32 = 0 ∨ k.val / 32 = 1 := by omega
  · exact .inl (le_trans (le_level3 y r l k 0 h0) (le_max_left _ _))
  · exact .inr (le_trans (le_level3 y r l k 1 h0) (le_max_right _ _))

/-- The candidates are the four entries of the last quadruple, side by side. -/
theorem cand_at (i : Fin 512) : cand y (ix2 r i) =
    if i.val < 128 then (level4 y).a (ix2 r ⟨i.val % 128, by omega⟩)
    else if i.val < 256 then (level4 y).b (ix2 r ⟨i.val % 128, by omega⟩)
    else if i.val < 384 then (level4 y).c (ix2 r ⟨i.val % 128, by omega⟩)
    else (level4 y).d (ix2 r ⟨i.val % 128, by omega⟩) := by
  pointwise [cand]
  have := i.isLt
  repeat' split
  all_goals first | omega | (congr 2; exact Fin.ext (by first | omega | (simp only; omega)))

/-- Every candidate is one of the row's scores. -/
theorem among_cand (i : Fin 512) : Among (rowOf y r) (cand y (ix2 r i)) := by
  rw [cand_at]
  have h := kept_level4 y r ⟨i.val % 128, by omega⟩
  split_ifs
  · exact h.1
  · exact h.2.1
  · exact h.2.2.1
  · exact h.2.2.2

/-- Every score of the row is at most some candidate. -/
theorem le_cand (i : Fin 8192) : ∃ x : Fin 512, y (ix2 r i) ≤ cand y (ix2 r x) := by
  have hi := slice_at y r ⟨i.val % 128, by omega⟩ ⟨i.val / 128, by omega⟩
  have he : (⟨128 * (i.val / 128) + i.val % 128, by omega⟩ : Fin 8192) = i := Fin.ext (by simp only; omega)
  simp only [he] at hi
  rw [← hi]
  rcases le_level4 y r ⟨i.val % 128, by omega⟩ ⟨i.val / 128, by omega⟩ with h | h
  · refine ⟨⟨i.val % 128, by omega⟩, le_of_le_of_eq h ?_⟩
    rw [cand_at, if_pos (by simp only; omega)]
    congr 2; exact Fin.ext (by simp only; omega)
  · refine ⟨⟨384 + i.val % 128, by omega⟩, le_of_le_of_eq h ?_⟩
    rw [cand_at, if_neg (by simp only; omega), if_neg (by simp only; omega), if_neg (by simp only; omega)]
    congr 2; exact Fin.ext (by simp only; omega)

/-- The largest candidate of a row is its largest score. -/
theorem top_cand : Finset.univ.sup (fun x : Fin 512 => cand y (ix2 r x)) = Spec.peak (rowOf y r) := by
  apply le_antisymm
  · refine Finset.sup_le fun x _ => ?_
    obtain ⟨i, h⟩ := among_cand y r x
    exact h ▸ Finset.le_sup (f := rowOf y r) (Finset.mem_univ i)
  · refine Finset.sup_le fun i _ => ?_
    obtain ⟨x, h⟩ := le_cand y r i
    exact le_trans h (Finset.le_sup (f := fun x : Fin 512 => cand y (ix2 r x)) (Finset.mem_univ x))

end Cert.KernelIdeal.Blocks

end
-- ==== Proof.TopEight.lean ====
/-
  The top-8 block at Ideal. The threshold search drops the largest distinct value seven times, so at least eight scores
  of every row reach its threshold; where no row has more than eight they are the row's eight largest. Where one has,
  eight rounds that each mark the first largest score left do the same.
-/
module

public import proofs.«01_k».proof.Proof.Network

@[expose] public section

set_option maxRecDepth 16384

noncomputable section

namespace Cert.KernelIdeal.Blocks

open Idealize.ShloMosaic Idealize.SL.Sem
open Cert.KernelIdeal.Gen

variable (y : FVec Ideal S128x8192 .f32) (r : Fin 128)

/-- The largest entry of a row of 512. -/
theorem top512_at (v : FVec Ideal S128x512 .f32) (r : Fin 128) :
    top512 v (ix2 r 0) = Finset.univ.sup fun x : Fin 512 => v (ix2 r x) := by
  pointwise [top512]
  rw [lowest_eq]
  rfl

/-! ## The threshold -/

/-- How many scores of a row are at least `t`. -/
def reachCount (z : Fin 8192 → EReal) (t : EReal) : ℕ := (Finset.univ.filter fun i => t ≤ z i).card

/-- After `k` cuts: what is left are scores of the row or nothing, the threshold is the largest left, and it is
    nothing or at least `k + 1` scores reach it. -/
def Cuts (z : Fin 8192 → EReal) (k : ℕ) (p : FVec Ideal S128x512 .f32 × FVec Ideal S128x1 .f32) : Prop :=
  (∀ x, p.1 (ix2 r x) = ⊥ ∨ Among z (p.1 (ix2 r x))) ∧ (p.2 (ix2 r 0) = ⊥ ∨ k + 1 ≤ reachCount z (p.2 (ix2 r 0)))

/-- A score that is below a threshold is reached once more often. -/
theorem reachCount_lt {z : Fin 8192 → EReal} {t u : EReal} (hu : Among z u) (h : u < t) :
    reachCount z t < reachCount z u := by
  obtain ⟨i, rfl⟩ := hu
  refine Finset.card_lt_card ⟨fun j hj => ?_, fun hs => ?_⟩
  · rw [Finset.mem_filter] at hj ⊢
    exact ⟨hj.1, le_trans h.le hj.2⟩
  · have := hs (Finset.mem_filter.mpr ⟨Finset.mem_univ i, le_rfl⟩)
    exact absurd (Finset.mem_filter.mp this).2 (not_le.mpr h)

theorem cut_fst_at (p : FVec Ideal S128x512 .f32 × FVec Ideal S128x1 .f32) (x : Fin 512) :
    (cut p).1 (ix2 r x) = if p.1 (ix2 r x) < p.2 (ix2 r 0) then p.1 (ix2 r x) else ⊥ := by
  pointwise [cut]
  rw [lowest_eq]

theorem cut_snd (p : FVec Ideal S128x512 .f32 × FVec Ideal S128x1 .f32) : (cut p).2 = top512 (cut p).1 := by
  unfold cut
  dsimp only

theorem cuts_step {z : Fin 8192 → EReal} {k : ℕ} {p : FVec Ideal S128x512 .f32 × FVec Ideal S128x1 .f32}
    (h : Cuts r z k p) : Cuts r z (k + 1) (cut p) := by
  refine ⟨fun x => ?_, ?_⟩
  · rw [cut_fst_at]
    split
    · exact h.1 x
    · exact .inl rfl
  · have ht : (cut p).2 (ix2 r 0) = Finset.univ.sup fun x : Fin 512 => (cut p).1 (ix2 r x) := by
      rw [cut_snd, top512_at]
    obtain ⟨x, hx⟩ := Spec.peak_mem fun x : Fin 512 => (cut p).1 (ix2 r x)
    unfold Spec.peak at hx
    rw [ht, hx, cut_fst_at]
    split
    · next hlt =>
      rcases h.1 x with hb | ha
      · exact .inl hb
      · rcases h.2 with h2 | h2
        · rw [h2] at hlt; exact absurd hlt not_lt_bot
        · have := reachCount_lt ha hlt
          exact .inr (by omega)
    · exact .inl rfl

/-- At least eight scores of a row reach its threshold. -/
theorem eight_reach : 8 ≤ reachCount (rowOf y r) (threshold y (ix2 r 0)) := by
  have h0 : Cuts r (rowOf y r) 0 (cand y, top512 (cand y)) := by
    refine ⟨fun x => .inr (among_cand y r x), .inr ?_⟩
    obtain ⟨x, hx⟩ := Spec.peak_mem (rowOf y r)
    dsimp only
    rw [top512_at, top_cand, hx]
    exact Nat.succ_le_of_lt (Finset.card_pos.mpr ⟨x, Finset.mem_filter.mpr ⟨Finset.mem_univ x, le_rfl⟩⟩)
  have h : ∀ k, Cuts r (rowOf y r) k (cut^[k] (cand y, top512 (cand y))) := by
    intro k
    induction k with
    | zero => exact h0
    | succ k ih => rw [Function.iterate_succ_apply']; exact cuts_step r ih
  have h7 := (h 7).2
  unfold threshold
  generalize (cut^[7] (cand y, top512 (cand y))).2 (ix2 r 0) = t at h7 ⊢
  rcases h7 with rfl | hc
  · have hu : (Finset.univ.filter fun i => ⊥ ≤ rowOf y r i) = Finset.univ :=
      Finset.filter_true_of_mem fun _ _ => bot_le
    unfold reachCount
    rw [hu, Finset.card_univ, Fintype.card_fin]
    norm_num
  · exact hc

theorem reached_at (i : Fin 8192) : reached y (ix2 r i) = if threshold y (ix2 r 0) ≤ y (ix2 r i) then 1 else 0 := by
  pointwise [reached]

/-- A row of the reached block adds up to the number of scores that reach the threshold. -/
theorem sum_reached : ∑ i : Fin 8192, reached y (ix2 r i) =
    ((reachCount (rowOf y r) (threshold y (ix2 r 0)) : ℝ) : EReal) := by
  rw [reachCount, ← Finset.sum_boole, Spec.coe_sum]
  refine Finset.sum_congr rfl fun i _ => ?_
  rw [reached_at]
  show _ = (((if threshold y (ix2 r 0) ≤ y (ix2 r i) then (1 : ℝ) else 0) : ℝ) : EReal)
  split <;> simp

/-- No row's count exceeds the largest count. -/
theorem le_mostReached : ∑ i : Fin 8192, reached y (ix2 r i) ≤ mostReached y := by
  pointwise [mostReached, rowSum]
  exact (Finset.le_fold_max _).mpr (.inr ⟨(r, 0), Finset.mem_univ _, le_rfl⟩)

/-- The float eight. -/
theorem eight_eq : Ideal.ofBits .f32 0x41000000#32 = ((8 : ℝ) : EReal) := by
  simp [Ideal.ofBits, Ideal.ieee]
  rw [← EReal.coe_mul]
  norm_num

/-- With no tie, exactly eight scores of each row reach the threshold. -/
theorem reachCount_eq (h : ¬ tied y) : reachCount (rowOf y r) (threshold y (ix2 r 0)) = 8 := by
  have hm : ¬ Ideal.ofBits .f32 0x41000000#32 < mostReached y := by
    intro hlt
    apply h
    rw [tied]
    generalize mostReached y = v at hlt ⊢
    have hc : Scalar.cmpf .ogt v (Scalar.ofBits .f32 0x41000000#32 : Ideal .f32) = 1#1 := by
      show Ideal.cmp .ogt _ _ = _
      simp only [Ideal.cmp]
      simp [hlt]
    rw [hc]
    decide
  rw [eight_eq] at hm
  have hle := le_trans (le_mostReached y r) (not_lt.mp hm)
  rw [sum_reached, EReal.coe_le_coe_iff] at hle
  have : reachCount (rowOf y r) (threshold y (ix2 r 0)) ≤ 8 := by exact_mod_cast hle
  exact le_antisymm this (eight_reach y r)

/-! ## The repair -/

/-- The smallest word of a family, by its smallest member. -/
theorem fold_minsi_eq {ι : Type*} [Fintype ι] (f : ι → BitVec 32) (b : BitVec 32) (i : ι)
    (hb : (f i).toInt ≤ b.toInt) (hf : ∀ j, (f i).toInt ≤ (f j).toInt) :
    Finset.univ.fold IntOp.minsi b f = f i := by
  have hm : ∀ u v : BitVec 32, (IntOp.minsi u v).toInt = min u.toInt v.toInt := by
    intro u v
    unfold IntOp.minsi
    by_cases h : u.slt v = true
    · rw [if_pos h]; rw [BitVec.slt_iff_toInt_lt] at h; omega
    · rw [if_neg h]; rw [BitVec.slt_iff_toInt_lt] at h; omega
  rw [← BitVec.toInt_inj, ← Finset.fold_hom (op' := min) hm]
  apply le_antisymm
  · exact (Finset.fold_min_le _).mpr (.inr ⟨i, Finset.mem_univ i, le_rfl⟩)
  · exact (Finset.le_fold_min _).mpr ⟨hb, fun j _ => hf j⟩

/-- The number of a column, read back. -/
theorem toInt_col (i : Fin 8192) : (BitVec.ofNat 32 i.val).toInt = i.val := by
  have := i.isLt
  rw [BitVec.toInt_ofNat', Int.bmod_eq_of_le] <;> omega

/-- The marks of a round are at the row's first largest entry. -/
theorem pick_at (v : FVec Ideal S128x8192 .f32) (i0 : Fin 8192) (hmax : ∀ x, v (ix2 r x) ≤ v (ix2 r i0))
    (hfirst : ∀ x, v (ix2 r x) = v (ix2 r i0) → i0 ≤ x) (i : Fin 8192) : pick v (ix2 r i) = 1#1 ↔ i = i0 := by
  have hs : Finset.univ.fold max (Ideal.ofBits .f32 0xFF800000#32) (fun x : Fin 8192 => v (ix2 r x)) = v (ix2 r i0) := by
    rw [lowest_eq]
    exact le_antisymm ((Finset.fold_max_le _).mpr ⟨bot_le, fun x _ => hmax x⟩)
      ((Finset.le_fold_max _).mpr (.inr ⟨i0, Finset.mem_univ i0, le_rfl⟩))
  have hf : Finset.univ.fold IntOp.minsi 2147483647#32
      (fun x : Fin 8192 => if v (ix2 r x) = v (ix2 r i0) then BitVec.ofNat 32 x.val else 8192#32) =
      BitVec.ofNat 32 i0.val := by
    refine (fold_minsi_eq _ _ i0 ?_ fun j => ?_).trans (if_pos rfl)
    · rw [if_pos rfl, toInt_col]
      have := i0.isLt
      show (i0.val : ℤ) ≤ 2147483647
      omega
    · rw [if_pos rfl, toInt_col]
      split
      · next h =>
        rw [toInt_col]
        exact_mod_cast hfirst j h
      · have := i0.isLt
        show (i0.val : ℤ) ≤ 8192
        omega
  have hp : pick v (ix2 r i) = IntOp.cmpi .eq (BitVec.ofNat 32 i.val) (BitVec.ofNat 32 i0.val) := by
    rw [← hf, ← hs]
    pointwise [pick, cols]
  rw [hp]
  have he : (BitVec.ofNat 32 i.val = BitVec.ofNat 32 i0.val) ↔ i = i0 := by
    constructor
    · intro h
      have := congrArg BitVec.toInt h
      rw [toInt_col, toInt_col] at this
      exact Fin.ext (by exact_mod_cast this)
    · rintro rfl; rfl
  rw [← he]
  generalize BitVec.ofNat 32 i.val = a
  generalize BitVec.ofNat 32 i0.val = b
  show BitVec.ofBool (a == b) = 1#1 ↔ a = b
  by_cases h : a = b
  · subst h; simp
  · rw [beq_eq_false_iff_ne.mpr h]; simp [h]

theorem strike_fst_at (p : FVec Ideal S128x8192 .f32 × FVec Ideal S128x8192 .f32) (i : Fin 8192) :
    (strike p).1 (ix2 r i) = if pick p.2 (ix2 r i) = 1#1 then 1 else p.1 (ix2 r i) := by
  pointwise [strike]
  rfl

theorem strike_snd_at (p : FVec Ideal S128x8192 .f32 × FVec Ideal S128x8192 .f32) (i : Fin 8192) :
    (strike p).2 (ix2 r i) = if pick p.2 (ix2 r i) = 1#1 then ⊥ else p.2 (ix2 r i) := by
  pointwise [strike]
  rw [lowest_eq]
  rfl

/-- After `s` rounds the entries of rank below `s` are marked and out of the running. -/
theorem strikes (hy : ∀ i, ⊥ < y (ix2 r i)) : ∀ s ≤ 8192, ∀ i,
    (strike^[s] (broadcast S128x8192 (Scalar.ofBits .f32 0x00000000#32 : Ideal .f32), y)).1 (ix2 r i) =
        (if Rank.rank (rowOf y r) i < s then 1 else 0) ∧
      (strike^[s] (broadcast S128x8192 (Scalar.ofBits .f32 0x00000000#32 : Ideal .f32), y)).2 (ix2 r i) =
        Rank.struck (rowOf y r) s i := by
  intro s
  induction s with
  | zero =>
    intro _ i
    refine ⟨?_, ?_⟩
    · rw [if_neg (by omega)]
      exact Ideal.ofBits_zero_f32
    · rw [Rank.struck, if_neg (by omega)]
      rfl
  | succ s ih =>
    intro hs i
    have ih := ih (by omega)
    rw [Function.iterate_succ_apply']
    generalize strike^[s] (broadcast S128x8192 (Scalar.ofBits .f32 0x00000000#32 : Ideal .f32), y) = p at ih ⊢
    obtain ⟨i0, h0⟩ := Rank.exists_rank (rowOf y r) (s := s) (by omega)
    have hv0 : p.2 (ix2 r i0) = rowOf y r i0 := (ih i0).2.trans (Rank.struck_self _ h0)
    have hp : pick p.2 (ix2 r i) = 1#1 ↔ i = i0 := by
      refine pick_at r p.2 i0 (fun x => ?_) (fun x hx => ?_) i
      · rw [hv0, (ih x).2]; exact Rank.struck_le _ h0 x
      · rw [hv0, (ih x).2] at hx; exact Rank.le_of_struck_eq _ (hy i0) h0 hx
    have hr : Rank.rank (rowOf y r) i < s + 1 ↔ i = i0 ∨ Rank.rank (rowOf y r) i < s := by
      constructor
      · intro h
        rcases Nat.lt_succ_iff_lt_or_eq.mp h with h | h
        · exact .inr h
        · exact .inl (Rank.rank_injective _ (h.trans h0.symm))
      · rintro (rfl | h) <;> omega
    rw [strike_fst_at, strike_snd_at, (ih i).1, (ih i).2]
    simp only [Rank.struck, hp, hr]
    by_cases h : i = i0 <;> simp [h]

/-- The top-8 block at a row of finite scores: one at the row's eight largest, equal ones taken from the left. -/
theorem hard_at (hy : ∀ i, ⊥ < y (ix2 r i)) (i : Fin 8192) : hard y (ix2 r i) = Spec.hardR (rowOf y r) i := by
  unfold hard
  split
  · exact (strikes y r hy 8 (by omega) i).1
  · next h =>
    rw [reached_at, Spec.hardR]
    have := Rank.reach_iff_rank_lt (rowOf y r) (k := 8) (by omega) (reachCount_eq y r h) i
    exact if_congr this rfl rfl

end Cert.KernelIdeal.Blocks

end
-- ==== Proof.BlockValues.lean ====
/-
  A grid point's blocks at Ideal, one row at a time: the scores are the row's scores, the softmax block the row's
  softmax, the output block the mixed codes, and the entropy a point adds is minus its rows' sums of `p log p`.
-/
module

public import proofs.«01_k».proof.Proof.Network

@[expose] public section

set_option maxRecDepth 16384

noncomputable section

namespace Cert.KernelIdeal.Blocks

open Idealize.ShloMosaic Idealize.SL.Sem
open Cert.KernelIdeal.Gen

/-- A block of scores at a row and a column: the row's score against the column's code, where the block's scalar is
    the reciprocal temperature and its codebook is normalised. -/
theorem scores_at (s : Vec Ideal S1x1 .f32) (x : Vec Ideal S128x64 .f32) (n : Vec Ideal S8192x64 .f32)
    (g : Vec Ideal S128x8192 .f32) (t : EReal) (hs : only s = Ideal.div 1 (Spec.temper t)) (e : Fin 8192 → Fin 64 → EReal)
    (hn : ∀ i k, n (ix2 i k) = Spec.unit (e i) k) (r : Fin 128) (i : Fin 8192) :
    scores s x n g (ix2 r i) = Spec.score (fun k => x (ix2 r k)) (e i) (g (ix2 r i)) t := by
  unfold Spec.score
  rw [← Spec.mul_recip, ← hs]
  pointwise [scores, k0_pay20, only]
  simp only [hn]
  rfl

/-- The normalised codebook at a row. -/
theorem unitRows_at (cb : Vec Ideal S8192x64 .f32) (i : Fin 8192) (k : Fin 64) :
    unitRows cb (ix2 i k) = Spec.unit (fun k => cb (ix2 i k)) k := by
  unfold Spec.unit
  pointwise [unitRows, k0_pay18]

variable (y : FVec Ideal S128x8192 .f32) (r : Fin 128)

/-- The shifted scores. -/
theorem shifted_at (i : Fin 8192) : shifted y (ix2 r i) = rowOf y r i - Spec.peak (rowOf y r) := by
  rw [← top_cand]
  pointwise [shifted, top512]
  rw [lowest_eq]
  rfl

/-- The exponentials are the row's weights. -/
theorem expo_at (i : Fin 8192) : expo y (ix2 r i) = Spec.weight (rowOf y r) i := by
  rw [Spec.weight, ← shifted_at]
  pointwise [expo]

/-- Their sum. -/
theorem total_at : total y (ix2 r 0) = ∑ i, Spec.weight (rowOf y r) i := by
  simp only [← expo_at]
  pointwise [total, rowSum]

/-- The softmax block at a row of finite scores. -/
theorem soft_at (hy : Spec.Real? (rowOf y r)) (i : Fin 8192) : soft y (ix2 r i) = Spec.softR (rowOf y r) i := by
  rw [← Spec.softR_eq_mul hy, ← expo_at, ← total_at]
  pointwise [soft, k0_pay404, recip]

/-- The entropy after a point is the entropy before it less the sum of its rows' sums of `p log p`. -/
theorem entNext_at (hy : ∀ r, Spec.Real? (rowOf y r)) (p : FVec Ideal S1x1 .f32) :
    entNext y p (ix2 0 0) = p (ix2 0 0) + (0 - ∑ r, Spec.plogp (rowOf y r)) := by
  have h : ∀ r, (∑ i : Fin 8192, expo y (ix2 r i) * shifted y (ix2 r i)) * Ideal.div 1 (total y (ix2 r 0)) -
      Ideal.log (total y (ix2 r 0)) = Spec.plogp (rowOf y r) := by
    intro r
    rw [← (Spec.plogp_eq (hy r)).1, total_at]
    simp only [expo_at, shifted_at]
  simp only [← h]
  pointwise [entNext, k0_pay405]

/-- The output block. -/
theorem out_at (s : Vec Ideal S1x1 .f32) (cb : Vec Ideal S8192x64 .f32)
    (hh : ∀ i, hard y (ix2 r i) = Spec.hardR (rowOf y r) i) (k : Fin 64) :
    out s cb y (ix2 r k) = Spec.mixed (rowOf y r) (fun i => cb (ix2 i k)) (only s) := by
  unfold Spec.mixed
  simp only [← hh]
  pointwise [out, k0_pay1, k0_pay410, only]

end Cert.KernelIdeal.Blocks

end
-- ==== Proof.Arrays.lean ====
/-
  The arrays of the run. Every flat row has one row of scores, taken from the arguments; the four result arrays are read
  off those rows: the softmax, the eight places, their codebook rows summed and scaled, and the entropy.
-/
module

public import proofs.«01_k».proof.Proof.Reads
public import proofs.«01_k».proof.Proof.TopEight
public import proofs.«01_k».proof.Proof.BlockValues

@[expose] public section

set_option maxRecDepth 16384

noncomputable section

namespace Cert.KernelIdeal.Arrays

open Idealize.ShloMosaic Idealize.ShloMosaic.TcCoe Idealize.ShloMosaic.Tactic Idealize.SL.Sem
open Cert.KernelIdeal.Gen Cert.KernelIdeal.Blocks Cert.KernelIdeal.Run

variable (m : (ℓ : Loc nD τ sig) → Buf (Elt Ideal) ℓ) (c : Dev nD)

/-- The scores of position `n` of batch `b`. -/
def line (b : Fin 4) (n : Fin 576) : Fin 8192 → EReal :=
  Spec.scoreRow (fun k => points m c (ix3 b n k)) (fun i k => codes m c (ix2 i k)) (fun i => noise m c (ix3 b n i))
    (heat m c ix0)

/-- The scores of a flat row. -/
def lineAt (R : Fin 2304) : Fin 8192 → EReal := line m c (batch R) (spot R)

/-- The normalised codebook. -/
theorem book_at (i : Fin 8192) (k : Fin 64) : book m c (ix2 i k) = Spec.unit (fun k => codes m c (ix2 i k)) k := by
  unfold book
  rw [unitRows_at]
  simp only [e_at]

/-- The score block of a point holds the scores of its flat rows. -/
theorem scores_row (t : Fin cfg0.N) (r : Fin 128) : rowOf (scoresAt m c t) r = lineAt m c (flat t r) := by
  funext i
  unfold rowOf scoresAt
  rw [scores_at _ _ _ _ _ (recip_temp m c t) (fun i k => codes m c (ix2 i k)) (book_at m c) r i]
  simp only [x_at, g_at]
  rfl

/-! ## Where a block's entries sit in its array -/

theorem soft_place (t : Fin cfg0.N) (r : Fin 128) (i : Fin 8192) (G : FVec Ideal S2304x8192 .f32) :
    G (ix2 (flat t r) i) = G ((win0_5.blk t).view.emb (ix2 r i)) := by blk_ext [flat, place t]
theorem hard_place (t : Fin cfg0.N) (r : Fin 128) (i : Fin 8192) (G : FVec Ideal S2304x8192 .f32) :
    G (ix2 (flat t r) i) = G ((win0_6.blk t).view.emb (ix2 r i)) := by blk_ext [flat, place t]
theorem out_place (t : Fin cfg0.N) (r : Fin 128) (k : Fin 64) (G : FVec Ideal S2304x64 .f32) :
    G (ix2 (flat t r) k) = G ((win0_7.blk t).view.emb (ix2 r k)) := by blk_ext [flat, place t]

/-! ## With finite noise -/

variable (hg : ∀ i, ∃ r : ℝ, noise m c i = r)
include hg

/-- Every score is a real number. -/
theorem line_real (b : Fin 4) (n : Fin 576) : Spec.Real? (line m c b n) :=
  Spec.scoreRow_real _ _ (fun _ => hg _) _

theorem row_real (t : Fin cfg0.N) (r : Fin 128) : Spec.Real? (rowOf (scoresAt m c t) r) := by
  rw [scores_row]; exact line_real m c hg _ _

theorem hard_row (t : Fin cfg0.N) (r : Fin 128) (i : Fin 8192) :
    hard (scoresAt m c t) (ix2 r i) = Spec.hardR (lineAt m c (flat t r)) i := by
  rw [hard_at _ _ (fun i => by
    obtain ⟨x, hx⟩ := row_real m c hg t r i
    unfold rowOf at hx
    rw [hx]; exact EReal.bot_lt_coe x), scores_row]

/-! ## The result arrays -/

/-- The softmax array. -/
theorem soft_array : ((dats m 0 c).arrAt 5 cfg0.N : FVec Ideal S2304x8192 .f32)
    = fun j => Spec.softR (lineAt m c (j 0)) (j 1) := by
  refine (dats m 0 c).arrAt_eq_of_covers 5 _ (by decide +kernel) fun t _ y => ?_
  blk_simp
  rw [after_5]
  obtain ⟨r, i, rfl⟩ : ∃ (r : Fin 128) (i : Fin 8192), y = ix2 r i := ⟨y 0, y 1, eq_ix2 y⟩
  rw [soft_at _ _ (row_real m c hg t r), scores_row]
  exact soft_place t r i fun j => Spec.softR (lineAt m c (j 0)) (j 1)

/-- The array of the eight places. -/
theorem hard_array : ((dats m 0 c).arrAt 6 cfg0.N : FVec Ideal S2304x8192 .f32)
    = fun j => Spec.hardR (lineAt m c (j 0)) (j 1) := by
  refine (dats m 0 c).arrAt_eq_of_covers 6 _ (by decide +kernel) fun t _ y => ?_
  blk_simp
  rw [after_6]
  obtain ⟨r, i, rfl⟩ : ∃ (r : Fin 128) (i : Fin 8192), y = ix2 r i := ⟨y 0, y 1, eq_ix2 y⟩
  rw [hard_row m c hg]
  exact hard_place t r i fun j => Spec.hardR (lineAt m c (j 0)) (j 1)

/-- The output array. -/
theorem out_array : ((dats m 0 c).arrAt 7 cfg0.N : FVec Ideal S2304x64 .f32)
    = fun j => Spec.mixed (lineAt m c (j 0)) (fun i => codes m c (ix2 i (j 1))) (scale m c (ix1 0)) := by
  refine (dats m 0 c).arrAt_eq_of_covers 7 _ (by decide +kernel) fun t _ y => ?_
  blk_simp
  rw [after_7]
  obtain ⟨r, k, rfl⟩ : ∃ (r : Fin 128) (k : Fin 64), y = ix2 r k := ⟨y 0, y 1, eq_ix2 y⟩
  rw [out_at _ _ _ _ (fun i => by rw [scores_row]; exact hard_row m c hg t r i), scores_row, scale_cell]
  simp only [e_at]
  exact out_place t r k fun j => Spec.mixed (lineAt m c (j 0)) (fun i => codes m c (ix2 i (j 1))) (scale m c (ix1 0))

end Cert.KernelIdeal.Arrays

end
-- ==== Proof.Entropy.lean ====
/-
  The entropy cell of the run. It starts at zero and every point takes off its rows' sums of `p log p`, so at the end it
  holds minus the sum over all rows.
-/
module

public import proofs.«01_k».proof.Proof.Arrays

@[expose] public section

set_option maxRecDepth 16384

noncomputable section

namespace Cert.KernelIdeal.Arrays

open Idealize.ShloMosaic Idealize.ShloMosaic.TcCoe Idealize.ShloMosaic.Tactic Idealize.SL.Sem
open Cert.KernelIdeal.Gen Cert.KernelIdeal.Blocks Cert.KernelIdeal.Run

variable (m : (ℓ : Loc nD τ sig) → Buf (Elt Ideal) ℓ) (c : Dev nD)

/-- The sum of `p log p` over a point's rows. -/
def share (t : Fin cfg0.N) : EReal := ∑ r : Fin 128, Spec.plogp (lineAt m c (flat t r))

/-- The points up to point `n`. -/
abbrev upTo (n : ℕ) (h : n < cfg0.N) (R : Fin (n + 1)) : Fin cfg0.N := ⟨R.val, lt_of_le_of_lt (Nat.lt_succ_iff.mp R.isLt) h⟩

/-- The last point. -/
abbrev last : Fin cfg0.N := ⟨17, by rw [show cfg0.N = 18 from N_0]; decide⟩

/-- The shares of all points together are the sum over all rows. -/
theorem shares : ∑ R : Fin 18, share m c (upTo 17 last.isLt R) = ∑ R : Fin 2304, Spec.plogp (lineAt m c R) := by
  rw [Fin.sum_univ_tiles 18 128 rfl]
  refine Finset.sum_congr rfl fun R _ => Finset.sum_congr rfl fun r _ => ?_
  rw [show flat (upTo 17 last.isLt R) r = ⟨R.val * 128 + r.val, by omega⟩ from
    Fin.ext (congrArg (· + r.val) (Nat.mul_comm 128 R.val))]

variable (hg : ∀ i, ∃ r : ℝ, noise m c i = r)
include hg

/-- A share is a real number. -/
theorem share_real (t : Fin cfg0.N) : ∃ r : ℝ, share m c t = r :=
  Spec.sum_real _ fun r => (Spec.plogp_eq (line_real m c hg _ _)).2

/-- One point takes off its share. -/
theorem step (t : Fin cfg0.N) (p : FVec Ideal S1x1 .f32) :
    entNext (scoresAt m c t) p (ix2 0 0) = p (ix2 0 0) + (0 - share m c t) := by
  rw [entNext_at _ (row_real m c hg t)]
  simp only [scores_row]
  rfl

/-- After point `n` the entropy cell holds minus the shares of the points so far. -/
theorem entAt_eq (n : ℕ) (h : n < cfg0.N) :
    entAt m c n h (ix2 0 0) = -∑ R : Fin (n + 1), share m c (upTo n h R) := by
  induction n with
  | zero =>
    rw [entAt, step m c hg, Fin.sum_univ_one, show (entStart : FVec Ideal S1x1 .f32) (ix2 0 0) = 0 from
      Ideal.ofBits_zero_f32, zero_add, zero_sub]
    rfl
  | succ n ih =>
    rw [entAt, step m c hg, ih (Nat.lt_of_succ_lt h), Fin.sum_univ_castSucc (n := n + 1),
      Spec.neg_step (Spec.sum_real _ fun R => share_real m c hg _) (share_real m c hg _)]
    rfl

/-- The entropy array: minus the sum over every row. -/
theorem ent_array : ((dats m 0 c).arrAt 8 cfg0.N : FVec Ideal S1x1 .f32)
    = fun _ => -∑ R : Fin 2304, Spec.plogp (lineAt m c R) := by
  refine (dats m 0 c).arrAt_eq_of_after_last 8 last (by decide +kernel) _ fun j => ?_
  blk_simp
  rw [after_8]
  obtain rfl : j = ix2 0 0 := by
    rw [eq_ix2 j]; congr 1 <;> exact Subsingleton.elim (α := Fin 1) _ _
  rw [entAt_eq m c hg, shares]

end Cert.KernelIdeal.Arrays

end
-- ==== Proof.Tail.lean ====
/-
  What the host makes of the result arrays after the launch: three are put back into batches, the entropy cell is divided by
  the number of rows.
-/
module

public import proofs.«01_k».proof.Proof.Run
public import Idealize.ShloMosaic.PureOps.Ideal

@[expose] public section

set_option maxRecDepth 16384

noncomputable section

namespace Cert.KernelIdeal.Arrays

open Idealize.ShloMosaic Idealize.ShloMosaic.TcCoe Idealize.ShloMosaic.Tactic Idealize.SL.Sem
open Cert.KernelIdeal.Gen Cert.KernelIdeal.Blocks Cert.KernelIdeal.Run

variable (m : (ℓ : Loc nD τ sig) → Buf (Elt Ideal) ℓ) (c : Dev nD)

/-- Window `w`'s array as the host finds it after the launch. -/
theorem found (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

/-- The softmax. -/
theorem tail_soft : (Pipeline.afterTail₀ cfgs (dats m) 0 (V0 m) [hostOps1] c main_v10 : FVec Ideal S4x576x8192 .f32)
    = shapeCast S4x576x8192 ((dats m 0 c).arrAt 5 cfg0.N : FVec Ideal S2304x8192 .f32) shapeCasts_S2304x8192_S4x576x8192 := by
  rw [← found m c 5]
  unfold Pipeline.afterTail₀
  after_results
  rfl

/-- The eight places. -/
theorem tail_hard : (Pipeline.afterTail₀ cfgs (dats m) 0 (V0 m) [hostOps1] c main_v11 : FVec Ideal S4x576x8192 .f32)
    = shapeCast S4x576x8192 ((dats m 0 c).arrAt 6 cfg0.N : FVec Ideal S2304x8192 .f32) shapeCasts_S2304x8192_S4x576x8192 := by
  rw [← found m c 6]
  unfold Pipeline.afterTail₀
  after_results
  rfl

/-- The output. -/
theorem tail_out : (Pipeline.afterTail₀ cfgs (dats m) 0 (V0 m) [hostOps1] c main_v7 : FVec Ideal S4x576x64 .f32)
    = shapeCast S4x576x64 ((dats m 0 c).arrAt 7 cfg0.N : FVec Ideal S2304x64 .f32) shapeCasts_S2304x64_S4x576x64 := by
  rw [← found m c 7]
  unfold Pipeline.afterTail₀
  after_results
  rfl

/-- The entropy. -/
theorem tail_ent : (Pipeline.afterTail₀ cfgs (dats m) 0 (V0 m) [hostOps1] c main_v9 : FVec Ideal S_ .f32)
    = (Host.divf (F := Ideal) (shapeCast S_ ((dats m 0 c).arrAt 8 cfg0.N : FVec Ideal S1x1 .f32) shapeCasts_S1x1_S_)
        (constant S_ .f32 0x45100000#32) : FVec Ideal S_ .f32) := by
  rw [← found m c 8]
  unfold Pipeline.afterTail₀
  after_results
  rfl

end Cert.KernelIdeal.Arrays

end
-- ==== Proof.RefScores.lean ====
/-
  The reference at Ideal up to the softmax, and its last sums: the scores, the softmax, the output from the top-8
  array and the entropy, each read at an index.
-/
module

public import proofs.«01_k».proof.Proof.Gen.ReferenceIdeal.Read
public import proofs.«01_k».proof.Proof.Rows
public import Idealize.ShloMosaic.Lib.Pointwise
public import Idealize.ShloMosaic.Lib.ValueIdx

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Read

variable (x0 : (⟨S4x576x64, .f32⟩ : BufTy).Contents (Elt Ideal)) (x1 : (⟨S8192x64, .f32⟩ : BufTy).Contents (Elt Ideal))
  (x2 : (⟨S1, .f32⟩ : BufTy).Contents (Elt Ideal)) (x3 : (⟨S_, .f32⟩ : BufTy).Contents (Elt Ideal))
  (x4 : (⟨S4x576x8192, .f32⟩ : BufTy).Contents (Elt Ideal))

/-- The scores of row `n` of batch `b`. -/
def row (b : Fin 4) (n : Fin 576) : Fin 8192 → EReal :=
  Spec.scoreRow (fun k => x0 (ix3 b n k)) (fun i k => x1 (ix2 i k)) (fun i => x4 (ix3 b n i)) (x3 ix0)

/-- They are real where the perturbations are. -/
theorem row_real (hg : ∀ i, ∃ r : ℝ, x4 i = r) (b : Fin 4) (n : Fin 576) : Spec.Real? (row x0 x1 x3 x4 b n) :=
  Spec.scoreRow_real _ _ (fun i => hg (ix3 b n i)) _

/-- The perturbed, tempered scores. -/
theorem v13_at (b : Fin 4) (n : Fin 576) (i : Fin 8192) :
    val_main_v13 x0 x1 x3 x4 (ix3 b n i) = row x0 x1 x3 x4 b n i := by
  unfold row Spec.scoreRow Spec.score Spec.unit Spec.temper
  simp only [max_comm _ Spec.tiny]
  pointwise [val_main_v13, val_main_v12, val_main_v11, val_main_v10, val_main_v9, val_main_v8, val_main_v7,
    val_main_v6, val_main_v5, val_main_v4, val_main_v3, val_main_v2, val_main_v1, val_main_v0, val_main_call0_v0,
    val_main_call1_v0, val_main_call1_v1, val_main_call1_v2, val_main_call1_cst, val_main_call2_v0, val_main_call2_v1,
    val_main_cst_0, val_main_cst, val_main_call3_v0, val_main_call3_v1, val_main_call3_v2, val_main_call3_cst,
    val_main_cst_1, val_main_call4_v0, val_main_call4_v1]
  rfl

/-- The float of minus infinity is the least extended real. -/
theorem lowest_eq : Ideal.ofBits .f32 0xFF800000#32 = ⊥ := by simp [Ideal.ofBits, Ideal.ieee]

/-- A maximum from the least value is the row's largest value. -/
theorem fold_max_bot {n : ℕ} (z : Fin n → EReal) : Finset.univ.fold max ⊥ z = Spec.peak z := rfl

/-- A maximum over the last of three axes. -/
theorem reduce_max_at {n0 n1 n2 : ℕ} (h : (⟨3, ![n0, n1, n2]⟩ : Shape).ReducesTo [2] ⟨2, ![n0, n1]⟩)
    (x : FVec Ideal ⟨3, ![n0, n1, n2]⟩ .f32) (c : FVec Ideal S_ .f32) (hu : 0 < S_.numel) (b : Fin n0) (n : Fin n1) :
    Host.reduce FloatOps.maximumf x c h hu (ix2 b n) =
      Finset.univ.fold max (c (Shape.Idx.first hu)) fun k : Fin n2 => x (ix3 b n k) := by
  pointwise

/-- The largest score of a row. -/
theorem v16_at (b : Fin 4) (n : Fin 576) : val_main_v16 x0 x1 x3 x4 (ix2 b n) = Spec.peak (row x0 x1 x3 x4 b n) := by
  have h : val_main_v14 x0 x1 x3 x4 (ix2 b n) = Spec.peak fun i => val_main_v13 x0 x1 x3 x4 (ix3 b n i) := by
    unfold val_main_v14
    rw [reduce_max_at, val_main_cst_2]
    show Finset.univ.fold max (Ideal.ofBits .f32 0xFF800000#32) _ = _
    rw [lowest_eq]
    exact fold_max_bot _
  have h15 : val_main_v15 (F := Ideal) (ix2 b n) = ⊥ := by
    pointwise [val_main_v15, val_main_cst_3]
    exact lowest_eq
  rw [val_main_v16_apply, h15, h]
  simp only [v13_at]
  exact max_eq_right bot_le

/-- The weights. -/
theorem v20_at (b : Fin 4) (n : Fin 576) (i : Fin 8192) :
    val_main_v20 x0 x1 x3 x4 (ix3 b n i) = Spec.weight (row x0 x1 x3 x4 b n) i := by
  unfold Spec.weight
  rw [← v13_at, ← v16_at]
  pointwise [val_main_v20, val_main_v19, val_main_v18, val_main_v17]

/-- The softmax. -/
theorem v24_at (b : Fin 4) (n : Fin 576) (i : Fin 8192) :
    val_main_v24 x0 x1 x3 x4 (ix3 b n i) = Spec.softR (row x0 x1 x3 x4 b n) i := by
  unfold Spec.softR
  simp only [← v20_at]
  pointwise [val_main_v24, val_main_v23, val_main_v22, val_main_v21, val_main_cst_4]

/-- The output, from the top-8 array. -/
theorem v58_at (hh : ∀ b n i, val_main_v54 x0 x1 x3 x4 (ix3 b n i) = Spec.hardR (row x0 x1 x3 x4 b n) i)
    (b : Fin 4) (n : Fin 576) (k : Fin 64) : val_main_v58 x0 x1 x2 x3 x4 (ix3 b n k) =
      Spec.mixed (row x0 x1 x3 x4 b n) (fun i => x1 (ix2 i k)) (x2 (ix1 0)) := by
  unfold Spec.mixed
  simp only [← hh]
  pointwise [val_main_v58, val_main_v57, val_main_v56, val_main_v55]

/-- The entropy. -/
theorem v64_at (j : S_.Idx) : val_main_v64 x0 x1 x3 x4 j =
    -Ideal.div (∑ b : Fin 4, ∑ n : Fin 576, Spec.plogp (row x0 x1 x3 x4 b n)) (Ideal.ofBits .f32 0x45100000#32) := by
  unfold Spec.plogp
  simp only [← v24_at]
  pointwise [val_main_v64, val_main_v63, val_main_v62, val_main_v61, val_main_v60, val_main_v59, val_main_cst_12,
    val_main_cst_13, val_main_cst_14]

end Cert.ReferenceIdeal.Rows

end
-- ==== Proof.RefTopEight.lean ====
/-
  The reference's top-8 array at Ideal: a stable sort of each softmax row, its first eight positions written with ones
  into an array of zeros. An entry is one exactly where its rank in the row is below eight.
-/
module

public import proofs.«01_k».proof.Proof.RefScores
public import Idealize.ShloMosaic.Lib.Routing.OpsPair
public import Idealize.ShloMosaic.Lib.Routing.OpsSet

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Read

/-- An index of three axes, moved along the last. -/
theorem along_last {n0 n1 n2 : ℕ} (b : Fin n0) (n : Fin n1) (i : Fin n2) (q : Fin n2) :
    (ix3 b n i).along (2 : Fin 3) q = ix3 b n q := by
  funext a
  match a with
  | ⟨0, _⟩ => rfl
  | ⟨1, _⟩ => rfl
  | ⟨2, _⟩ => rfl

/-- The position a stable sort of each row, largest first, puts at place `p`, as a word. -/
theorem topK_at {n0 n1 n2 k : ℕ} (x : FVec Ideal ⟨3, ![n0, n1, n2]⟩ .f32)
    (h : (⟨3, ![n0, n1, n2]⟩ : Shape).Slices (fun _ => 0) ⟨3, ![n0, n1, k]⟩) (hk : k ≤ n2)
    (b : Fin n0) (n : Fin n1) (p : Fin k) :
    (Host.topK ⟨3, ![n0, n1, k]⟩ 2 (FloatOps.cmpfTotal .gt) x h).2 (ix3 b n p) =
      BitVec.ofNat 32 (sortedFrom (fun a c => decide (x (ix3 b n c) < x (ix3 b n a))) (p.castLE hk)).val := by
  have hc : ∀ u v : EReal, (FloatOps.cmpfTotal (F := Ideal) (φ := .f32) .gt u v == 1#1) = decide (v < u) := by
    intro u v
    show (Ideal.cmp .ogt u v == 1#1) = _
    by_cases huv : v < u <;> simp [Ideal.cmp, huv]
  unfold Host.topK
  dsimp only
  rw [extractStridedSlice_apply _ _ h (ix3 b n p) (ix3 b n (p.castLE hk)) (fun a => by
    match a with
    | ⟨0, _⟩ => exact (Nat.zero_add _).symm
    | ⟨1, _⟩ => exact (Nat.zero_add _).symm
    | ⟨2, _⟩ => exact (Nat.zero_add _).symm)]
  unfold Host.sort2
  rw [dif_pos (show 2 < (⟨3, ![n0, n1, n2]⟩ : Shape).rank from Nat.lt_succ_self 2)]
  dsimp only
  rw [dif_pos (show 2 < (⟨3, ![n0, n1, n2]⟩ : Shape).rank from Nat.lt_succ_self 2)]
  simp only [hc]
  have ha : ∀ q : Fin n2, (ix3 b n (p.castLE hk)).along (2 : Fin 3) q = ix3 b n q := along_last b n _
  show BitVec.ofNat 32 (((ix3 b n (p.castLE hk)).along (2 : Fin 3) (sortedFrom (fun a c : Fin n2 =>
    decide (x ((ix3 b n (p.castLE hk)).along (2 : Fin 3) c) < x ((ix3 b n (p.castLE hk)).along (2 : Fin 3) a)))
      (p.castLE hk))) 2).val = _
  simp only [ha]
  rfl

/-- A word that is not negative is left alone where a negative one would be moved up. -/
theorem select_word (v N : ℕ) (hv : v < 2 ^ 31) :
    Scalar.select (IntOp.cmpi .slt (BitVec.ofNat 32 v) 0#32) (IntOp.addi (BitVec.ofNat 32 v) (BitVec.ofNat 32 N))
      (BitVec.ofNat 32 v) = BitVec.ofNat 32 v := by
  have h : ¬ (BitVec.ofNat 32 v).slt 0#32 = true := by
    rw [BitVec.slt_iff_toInt_lt, BitVec.toInt_ofNat', Int.bmod_eq_of_le (by omega) (by omega)]
    simp
  have h' : IntOp.cmpi .slt (BitVec.ofNat 32 v) 0#32 = 0#1 := by
    show BitVec.ofBool ((BitVec.ofNat 32 v).slt 0#32) = 0#1
    rw [Bool.not_eq_true] at h
    rw [h]
    rfl
  rw [h']
  rfl

/-- A small word read as an integer. -/
theorem toInt_word (v : ℕ) (hv : v < 2 ^ 31) : (BitVec.ofNat 32 v).toInt = v := by
  rw [BitVec.toInt_ofNat', Int.bmod_eq_of_le] <;> omega

variable (x0 : (⟨S4x576x64, .f32⟩ : BufTy).Contents (Elt Ideal)) (x1 : (⟨S8192x64, .f32⟩ : BufTy).Contents (Elt Ideal))
  (x3 : (⟨S_, .f32⟩ : BufTy).Contents (Elt Ideal)) (x4 : (⟨S4x576x8192, .f32⟩ : BufTy).Contents (Elt Ideal))

/-- Where the entry of rank `p` of a row is. -/
def place (b : Fin 4) (n : Fin 576) (p : Fin 8) : Fin 8192 :=
  sortedFrom (fun a c => decide (val_main_v24 x0 x1 x3 x4 (ix3 b n c) < val_main_v24 x0 x1 x3 x4 (ix3 b n a)))
    (p.castLE (by omega))

/-- Its rank, among the row's scores. -/
theorem rank_place (hg : ∀ i, ∃ r : ℝ, x4 i = r) (b : Fin 4) (n : Fin 576) (p : Fin 8) :
    Rank.rank (row x0 x1 x3 x4 b n) (place x0 x1 x3 x4 b n p) = p.val := by
  unfold place
  simp only [v24_at]
  rw [← Spec.rank_softR (row_real x0 x1 x3 x4 hg b n)]
  exact Rank.rank_sortedFrom (Spec.softR (row x0 x1 x3 x4 b n)) (p.castLE (by omega))

theorem indices_at (b : Fin 4) (n : Fin 576) (p : Fin 8) :
    val_main_indices x0 x1 x3 x4 (ix3 b n p) = BitVec.ofNat 32 (place x0 x1 x3 x4 b n p).val := by
  unfold val_main_indices
  exact topK_at _ _ (by omega) b n p

/-- The three coordinates of the entry update `(b, n, p)` writes. -/
theorem v47_at (b : Fin 4) (n : Fin 576) (p : Fin 8) :
    val_main_v47 (F := Ideal) (ix4 b n p 0) = BitVec.ofNat 32 b.val := by
  rw [← select_word b.val 4 (by omega)]
  pointwise [val_main_v47, val_main_v45, val_main_v34, val_main_v33, val_main_v32, val_main_v31, val_main_v30,
    val_main_v26, val_main_v25, val_main_c, val_main_c_6]

theorem v48_at (b : Fin 4) (n : Fin 576) (p : Fin 8) :
    val_main_v48 (F := Ideal) (ix4 b n p 0) = BitVec.ofNat 32 n.val := by
  rw [← select_word n.val 576 (by omega)]
  pointwise [val_main_v48, val_main_v46, val_main_v39, val_main_v38, val_main_v37, val_main_v36, val_main_v35,
    val_main_v28, val_main_v27, val_main_c_7, val_main_c_8]

theorem v49_at (b : Fin 4) (n : Fin 576) (p : Fin 8) :
    val_main_v49 x0 x1 x3 x4 (ix4 b n p 0) = BitVec.ofNat 32 (place x0 x1 x3 x4 b n p).val := by
  have hs := select_word (place x0 x1 x3 x4 b n p).val 8192 (by omega)
  rw [← indices_at] at hs ⊢
  rw [← hs]
  pointwise [val_main_v49, val_main_v44, val_main_v43, val_main_v42, val_main_v41, val_main_v40, val_main_c_9,
    val_main_c_10]

theorem v50_at (b : Fin 4) (n : Fin 576) (p : Fin 8) :
    val_main_v50 x0 x1 x3 x4 (ix4 b n p 0) = BitVec.ofNat 32 b.val ∧
      val_main_v50 x0 x1 x3 x4 (ix4 b n p 1) = BitVec.ofNat 32 n.val ∧
      val_main_v50 x0 x1 x3 x4 (ix4 b n p 2) = BitVec.ofNat 32 (place x0 x1 x3 x4 b n p).val := by
  rw [← v47_at b n p, ← v48_at b n p, ← v49_at]
  refine ⟨?_, ?_, ?_⟩ <;> pointwise [val_main_v50]

/-- The coordinates an update starts at are the words its row of the index array holds. -/
theorem start_at (w : IVec S4x576x8x3 32) (b : Fin 4) (n : Fin 576) (p : Fin 8) :
    scatter_S4x576x8192_S4x576x8x3_S4x576x8_n_012_012_3.start (ix3 b n p) w 0 = (w (ix4 b n p 0)).toInt ∧
      scatter_S4x576x8192_S4x576x8x3_S4x576x8_n_012_012_3.start (ix3 b n p) w 1 = (w (ix4 b n p 1)).toInt ∧
      scatter_S4x576x8192_S4x576x8x3_S4x576x8_n_012_012_3.start (ix3 b n p) w 2 = (w (ix4 b n p 2)).toInt := by
  refine ⟨congrArg (fun j => (w j).toInt) ?_, congrArg (fun j => (w j).toInt) ?_, congrArg (fun j => (w j).toInt) ?_⟩ <;>
  · funext a
    match a with
    | ⟨0, _⟩ => rfl
    | ⟨1, _⟩ => rfl
    | ⟨2, _⟩ => rfl
    | ⟨3, _⟩ => rfl

/-- Update `(b, n, p)` writes the entry at row `n` of batch `b` and the column of the row's entry of rank `p`. -/
theorem lands (b : Fin 4) (n : Fin 576) (p : Fin 8) (b' : Fin 4) (n' : Fin 576) (i : Fin 8192) :
    scatter_S4x576x8192_S4x576x8x3_S4x576x8_n_012_012_3.resultIdx? (ix3 b n p) (val_main_v50 x0 x1 x3 x4) =
      some (ix3 b' n' i) ↔ b = b' ∧ n = n' ∧ place x0 x1 x3 x4 b n p = i := by
  rw [Routing.resultIdx?_eq_some]
  have hw : ∀ a, scatter_S4x576x8192_S4x576x8x3_S4x576x8_n_012_012_3.window (ix3 b n p) a = 0 := fun a => by
    match a with
    | ⟨0, _⟩ => rfl
    | ⟨1, _⟩ => rfl
    | ⟨2, _⟩ => rfl
  obtain ⟨h0, h1, h2⟩ := v50_at x0 x1 x3 x4 b n p
  have e0 := (start_at (val_main_v50 x0 x1 x3 x4) b n p).1
  have e1 := (start_at (val_main_v50 x0 x1 x3 x4) b n p).2.1
  have e2 := (start_at (val_main_v50 x0 x1 x3 x4) b n p).2.2
  rw [h0, toInt_word _ (by omega)] at e0
  rw [h1, toInt_word _ (by omega)] at e1
  rw [h2, toInt_word _ (by omega)] at e2
  constructor
  · intro h
    have q0 := h 0; have q1 := h 1; have q2 := h 2
    rw [hw, e0] at q0
    rw [hw, e1] at q1
    rw [hw, e2] at q2
    refine ⟨Fin.ext ?_, Fin.ext ?_, Fin.ext ?_⟩
    · have : (b.val : ℤ) + 0 = b'.val := q0
      omega
    · have : (n.val : ℤ) + 0 = n'.val := q1
      omega
    · have : ((place x0 x1 x3 x4 b n p).val : ℤ) + 0 = i.val := q2
      omega
  · rintro ⟨rfl, rfl, rfl⟩ a
    rw [hw]
    match a with
    | ⟨0, _⟩ => exact (add_zero _).trans e0
    | ⟨1, _⟩ => exact (add_zero _).trans e1
    | ⟨2, _⟩ => exact (add_zero _).trans e2

/-- The scattered ones. -/
theorem v52_at (hg : ∀ i, ∃ r : ℝ, x4 i = r) (b : Fin 4) (n : Fin 576) (i : Fin 8192) :
    val_main_v52 x0 x1 x3 x4 (ix3 b n i) = Spec.hardR (row x0 x1 x3 x4 b n) i := by
  unfold val_main_v52 Spec.hardR
  split
  · next h =>
    refine Routing.scatter_set_hit _ _ _ _ _ _ (fun k _ => ?_) (ix3 b n ⟨_, h⟩) ?_
    · obtain ⟨b', n', p', rfl⟩ : ∃ b' n' p', k = ix3 b' n' p' := ⟨_, _, _, eq_ix3 k⟩
      pointwise [val_main_v51, val_main_cst_11]
    · refine (lands x0 x1 x3 x4 ..).mpr ⟨rfl, rfl, ?_⟩
      exact Rank.rank_injective _ (rank_place x0 x1 x3 x4 hg b n _)
  · next h =>
    refine (Routing.scatter_set_miss _ _ _ _ _ fun k hk => ?_).trans (by pointwise [val_main_v29, val_main_cst_5])
    obtain ⟨b', n', p', rfl⟩ : ∃ b' n' p', k = ix3 b' n' p' := ⟨_, _, _, eq_ix3 k⟩
    obtain ⟨rfl, rfl, rfl⟩ := (lands x0 x1 x3 x4 ..).mp hk
    rw [rank_place x0 x1 x3 x4 hg] at h
    exact h p'.isLt

/-- The top-8 array: the softmax and the difference added back up. -/
theorem v54_at (hg : ∀ i, ∃ r : ℝ, x4 i = r) (b : Fin 4) (n : Fin 576) (i : Fin 8192) :
    val_main_v54 x0 x1 x3 x4 (ix3 b n i) = Spec.hardR (row x0 x1 x3 x4 b n) i := by
  rw [val_main_v54_apply, val_main_v53_apply, v24_at, v52_at x0 x1 x3 x4 hg]
  exact Spec.soft_add_sub (row_real x0 x1 x3 x4 hg b n) i

end Cert.ReferenceIdeal.Rows

end
-- ==== Proof.Agree.lean ====
/-
  The four results of the kernel are the four values of the reference: both are read at a batch and a position, where they
  are the same function of that position's row of scores.
-/
module

public import proofs.«01_k».proof.Proof.Entropy
public import proofs.«01_k».proof.Proof.Tail
public import proofs.«01_k».proof.Proof.RefTopEight

@[expose] public section

set_option maxRecDepth 16384

noncomputable section

namespace Cert.KernelIdeal.Arrays

open Idealize.ShloMosaic Idealize.ShloMosaic.TcCoe Idealize.ShloMosaic.Tactic Idealize.SL.Sem
open Cert.KernelIdeal.Gen Cert.KernelIdeal.Blocks Cert.KernelIdeal.Run
open Cert.ReferenceIdeal.Read (val_main_v24 val_main_v54 val_main_v58 val_main_v64)

/-- The number of rows is a real number other than zero. -/
theorem rows_real : ∃ r : ℝ, r ≠ 0 ∧ Ideal.ofBits .f32 0x45100000#32 = r := by
  refine ⟨_, ?_, by simp [Ideal.ofBits, Ideal.ieee]; rfl⟩
  norm_num

/-- A negated real number divided by the number of rows. -/
theorem neg_div_rows {a : EReal} (ha : ∃ r : ℝ, a = r) :
    Ideal.div (-a) (Ideal.ofBits .f32 0x45100000#32) = -Ideal.div a (Ideal.ofBits .f32 0x45100000#32) := by
  obtain ⟨x, rfl⟩ := ha
  obtain ⟨r, hr, e⟩ := rows_real
  rw [e, ← EReal.coe_neg, Spec.div_real _ hr, Spec.div_real _ hr, neg_div, EReal.coe_neg]

/-- Every batch and position are those of a flat row. -/
theorem exists_flat (b : Fin 4) (n : Fin 576) : ∃ R : Fin 2304, batch R = b ∧ spot R = n := by
  refine ⟨⟨b.val * 576 + n.val, by omega⟩, Fin.ext ?_, Fin.ext ?_⟩
  · unfold batch; dsimp only; omega
  · unfold spot; dsimp only; omega

variable (m : (ℓ : Loc nD τ sig) → Buf (Elt Ideal) ℓ) (c : Dev nD)

/-- The rows of scores are the reference's. -/
theorem line_eq (b : Fin 4) (n : Fin 576) :
    line m c b n = Cert.ReferenceIdeal.Rows.row (points m c) (codes m c) (heat m c) (noise m c) b n := rfl

/-- The sum over the flat rows, batch by batch. -/
theorem sum_rows (f : (Fin 8192 → EReal) → EReal) :
    ∑ R : Fin 2304, f (lineAt m c R) = ∑ b : Fin 4, ∑ n : Fin 576, f (line m c b n) := by
  rw [Fin.sum_univ_tiles 4 576 rfl]
  refine Finset.sum_congr rfl fun b _ => Finset.sum_congr rfl fun n _ => ?_
  unfold lineAt
  rw [show batch ⟨b.val * 576 + n.val, by omega⟩ = b from Fin.ext (by unfold batch; dsimp only; omega),
    show spot ⟨b.val * 576 + n.val, by omega⟩ = n from Fin.ext (by unfold spot; dsimp only; omega)]

variable (hg : ∀ i, ∃ r : ℝ, noise m c i = r)
include hg

/-- The softmax. -/
theorem soft_agree : (Pipeline.afterTail₀ cfgs (dats m) 0 (V0 m) [hostOps1] c main_v10 : FVec Ideal S4x576x8192 .f32)
    = val_main_v24 (points m c) (codes m c) (heat m c) (noise m c) := by
  rw [tail_soft, soft_array m c hg]
  funext j
  obtain ⟨b, n, i, rfl⟩ : ∃ (b : Fin 4) (n : Fin 576) (i : Fin 8192), j = ix3 b n i := ⟨j 0, j 1, j 2, eq_ix3 j⟩
  rw [Cert.ReferenceIdeal.Rows.v24_at, ← line_eq]
  obtain ⟨R, rfl, rfl⟩ := exists_flat b n
  rw [unflatten_at]
  rfl

/-- The eight places. -/
theorem hard_agree : (Pipeline.afterTail₀ cfgs (dats m) 0 (V0 m) [hostOps1] c main_v11 : FVec Ideal S4x576x8192 .f32)
    = val_main_v54 (points m c) (codes m c) (heat m c) (noise m c) := by
  rw [tail_hard, hard_array m c hg]
  funext j
  obtain ⟨b, n, i, rfl⟩ : ∃ (b : Fin 4) (n : Fin 576) (i : Fin 8192), j = ix3 b n i := ⟨j 0, j 1, j 2, eq_ix3 j⟩
  rw [Cert.ReferenceIdeal.Rows.v54_at _ _ _ _ hg, ← line_eq]
  obtain ⟨R, rfl, rfl⟩ := exists_flat b n
  rw [unflatten_at]
  rfl

/-- The output. -/
theorem out_agree : (Pipeline.afterTail₀ cfgs (dats m) 0 (V0 m) [hostOps1] c main_v7 : FVec Ideal S4x576x64 .f32)
    = val_main_v58 (points m c) (codes m c) (scale m c) (heat m c) (noise m c) := by
  rw [tail_out, out_array m c hg]
  funext j
  obtain ⟨b, n, k, rfl⟩ : ∃ (b : Fin 4) (n : Fin 576) (k : Fin 64), j = ix3 b n k := ⟨j 0, j 1, j 2, eq_ix3 j⟩
  rw [Cert.ReferenceIdeal.Rows.v58_at _ _ _ _ _ (Cert.ReferenceIdeal.Rows.v54_at _ _ _ _ hg), ← line_eq]
  obtain ⟨R, rfl, rfl⟩ := exists_flat b n
  rw [unflatten_at]
  rfl

/-- The entropy. -/
theorem ent_agree : (Pipeline.afterTail₀ cfgs (dats m) 0 (V0 m) [hostOps1] c main_v9 : FVec Ideal S_ .f32)
    = val_main_v64 (points m c) (codes m c) (heat m c) (noise m c) := by
  rw [tail_ent, ent_array m c hg]
  funext j
  rw [Cert.ReferenceIdeal.Rows.v64_at]
  simp only [← line_eq]
  have hs : ∃ r : ℝ, ∑ R : Fin 2304, Spec.plogp (lineAt m c R) = r :=
    Spec.sum_real _ fun R => (Spec.plogp_eq (line_real m c hg _ _)).2
  rw [← sum_rows m c Spec.plogp, ← neg_div_rows hs]
  generalize -∑ R : Fin 2304, Spec.plogp (lineAt m c R) = S
  rfl

end Cert.KernelIdeal.Arrays

end
-- ==== Proof.Finite.lean ====
/-
  The precondition read as mathematics: noise of finite magnitude is a real number in every place.
-/
module

public import proofs.«01_k».proof.Defs
public import proofs.«01_k».proof.Proof.Gen.Pre_gumbel_finite
public import Idealize.ShloMosaic.Lib.Pointwise

@[expose] public section

noncomputable section

namespace Cert.Proof

open Idealize.ShloMosaic Idealize.ShloMosaic.TcCoe Idealize.ShloMosaic.Tactic

/-- The pattern of plus infinity. -/
theorem top_eq : Ideal.ofBits .f32 0x7F800000#32 = ⊤ := by
  simp [Ideal.ofBits, Ideal.ieee]

/-- A value of magnitude below plus infinity is a real number. -/
theorem real_of_abs_lt {x : EReal} (h : max x (-x) < ⊤) : ∃ r : ℝ, x = r := by
  induction x using EReal.rec with
  | bot => simp at h
  | coe r => exact ⟨r, rfl⟩
  | top => simp at h

open Cert.Pre_gumbel_finite in
/-- What the precondition says of one entry of the noise. -/
theorem noise_real (a b c d) (g : FVec Ideal S4x576x8192 .f32)
    (h : Cert.Pre_gumbel_finite.fn (F := Ideal) a b c d g = fun _ => 1#1) (i : S4x576x8192.Idx) : ∃ r : ℝ, g i = r := by
  have e := congrFun h i
  unfold Cert.Pre_gumbel_finite.fn at e
  dsimp only at e
  have e' : BitVec.ofBool (decide (max (g i) (-(g i)) < Ideal.ofBits .f32 0x7F800000#32)) = 1#1 := by
    rw [← e]
    pointwise
    rfl
  rw [top_eq] at e'
  refine real_of_abs_lt ?_
  by_contra hn
  rw [decide_eq_false hn] at e'
  exact absurd e' (by decide)

end Cert.Proof

end
-- ==== Proof.Smooth.lean ====
/-
  The entropy with a small number added inside the logarithm: each row's sum grows, by at most that number for every
  entry of the row.
-/
module

public import proofs.«01_k».proof.Proof.Rows

@[expose] public section

noncomputable section

namespace Cert.Spec

open Idealize.ShloMosaic

/-- The number added inside the logarithm, the float nearest 1e-8. -/
def smooth : EReal := Ideal.ofBits .f32 0x322BCC77#32
/-- The bound on the difference of the entropies, the float nearest 1e-4. -/
def slack : EReal := Ideal.ofBits .f32 0x38D1B717#32

/-- The added number is a positive real of at most 1.1e-8. -/
theorem smooth_real : ∃ e : ℝ, 0 < e ∧ e ≤ 11 / 1000000000 ∧ smooth = e := by
  refine ⟨_, ?_, ?_, by simp [smooth, Ideal.ofBits, Ideal.ieee]; rfl⟩
  · positivity
  · norm_num

/-- The bound is a real of at least 0.99e-4. -/
theorem slack_real : ∃ d : ℝ, 99 / 1000000 ≤ d ∧ slack = d := by
  refine ⟨_, ?_, by simp [slack, Ideal.ofBits, Ideal.ieee]; rfl⟩
  norm_num

/-- `u` and `v` are real and `v` is between `u` and `u + d`. -/
def Near (d : ℝ) (u v : EReal) : Prop := ∃ a b : ℝ, u = a ∧ v = b ∧ a ≤ b ∧ b ≤ a + d

/-- Sums of near numbers are near. -/
theorem near_sum {n : ℕ} {d : ℝ} {f g : Fin n → EReal} (h : ∀ i, Near d (f i) (g i)) : Near (n * d) (∑ i, f i) (∑ i, g i) := by
  choose a b ha hb hab hba using h
  refine ⟨∑ i, a i, ∑ i, b i, ?_, ?_, Finset.sum_le_sum fun i _ => hab i, ?_⟩
  · rw [coe_sum]; exact Finset.sum_congr rfl fun i _ => ha i
  · rw [coe_sum]; exact Finset.sum_congr rfl fun i _ => hb i
  · refine (Finset.sum_le_sum fun i _ => hba i).trans (le_of_eq ?_)
    rw [Finset.sum_add_distrib, Finset.sum_const, Finset.card_univ, Fintype.card_fin, nsmul_eq_mul]

/-- A row's sum of `p log (p + smooth)`. -/
def slogp {n : ℕ} (z : Fin n → EReal) : EReal := ∑ i, softR z i * Ideal.log (softR z i + smooth)

/-- It exceeds the sum of `p log p` by at most `smooth` for every entry. -/
theorem slogp_near {n : ℕ} [NeZero n] {z : Fin n → EReal} (hz : Real? z) {e : ℝ} (he : 0 < e) (hE : smooth = e) :
    Near (n * e) (plogp z) (slogp z) := by
  obtain ⟨q, hq, hpos, -⟩ := softR_real hz
  refine near_sum fun i => ⟨q i * Real.log (q i), q i * Real.log (q i + e), ?_, ?_, ?_, ?_⟩
  · rw [hq, Ideal.log_coe, if_neg (not_le.mpr (hpos i)), ← EReal.coe_mul]
  · rw [hq, hE, ← EReal.coe_add, Ideal.log_coe, if_neg (not_le.mpr (add_pos (hpos i) he)), ← EReal.coe_mul]
  · exact mul_le_mul_of_nonneg_left (Real.log_le_log (hpos i) (by linarith)) (hpos i).le
  · have hq0 := hpos i
    have h1 : Real.log (q i + e) - Real.log (q i) ≤ e / q i := by
      rw [← Real.log_div (by positivity) hq0.ne']
      refine (Real.log_le_sub_one_of_pos (by positivity)).trans (le_of_eq ?_)
      field_simp
      ring
    have h2 : q i * (Real.log (q i + e) - Real.log (q i)) ≤ e := by
      refine (mul_le_mul_of_nonneg_left h1 hq0.le).trans (le_of_eq ?_)
      field_simp
    linarith

/-- The means of near sums, negated: the smoothed entropy is below the entropy, by at most the bound. -/
theorem mean_near {u v r : EReal} (hr : r = (2304 : ℝ)) {e : ℝ} (he : e ≤ 11 / 1000000000)
    (h : Near (4 * (576 * (8192 * e))) u v) :
    -Ideal.div v r ≤ -Ideal.div u r ∧ -Ideal.div u r ≤ -Ideal.div v r + slack := by
  obtain ⟨a, b, rfl, rfl, hab, hba⟩ := h
  obtain ⟨d, hd, hD⟩ := slack_real
  rw [hr, div_real _ (by norm_num), div_real _ (by norm_num), hD, ← EReal.coe_neg, ← EReal.coe_neg, ← EReal.coe_add,
    EReal.coe_le_coe_iff, EReal.coe_le_coe_iff]
  constructor
  · linarith
  · linarith

end Cert.Spec

end
-- ==== Proof.Close.lean ====
/-
  The entropy by the formula with 1e-8 inside the logarithm, taken from the softmax, lies below the entropy by at most 1e-4.
-/
module

public import proofs.«01_k».proof.Defs
public import proofs.«01_k».proof.Proof.Gen.Post_entropy_close
public import proofs.«01_k».proof.Proof.RefScores
public import proofs.«01_k».proof.Proof.Smooth

@[expose] public section

set_option maxRecDepth 16384

noncomputable section

namespace Cert.ReferenceIdeal.Rows

open Idealize.ShloMosaic Idealize.ShloMosaic.TcCoe Idealize.ShloMosaic.Tactic
open Cert.ReferenceIdeal.Read

variable (x0 : (⟨S4x576x64, .f32⟩ : BufTy).Contents (Elt Ideal)) (x1 : (⟨S8192x64, .f32⟩ : BufTy).Contents (Elt Ideal))
  (x2 : (⟨S1, .f32⟩ : BufTy).Contents (Elt Ideal)) (x3 : (⟨S_, .f32⟩ : BufTy).Contents (Elt Ideal))
  (x4 : (⟨S4x576x8192, .f32⟩ : BufTy).Contents (Elt Ideal))

/-- The number of rows. -/
theorem rows_eq : Ideal.ofBits .f32 0x45100000#32 = ((2304 : ℝ) : EReal) := by
  simp [Ideal.ofBits, Ideal.ieee]
  rw [← EReal.coe_mul]
  norm_num

/-- The entropy of a softmax array, by the formula with 1e-8 inside the logarithm. -/
def smoothed (p : (⟨S4x576x8192, .f32⟩ : BufTy).Contents (Elt Ideal)) : EReal :=
  -Ideal.div (∑ b : Fin 4, ∑ n : Fin 576, ∑ i : Fin 8192, p (ix3 b n i) * Ideal.log (p (ix3 b n i) + Spec.smooth))
    (Ideal.ofBits .f32 0x45100000#32)

/-- The postcondition holds of a softmax and an entropy within the bound. -/
theorem post_of (o : (⟨S4x576x64, .f32⟩ : BufTy).Contents (Elt Ideal))
    (p h : (⟨S4x576x8192, .f32⟩ : BufTy).Contents (Elt Ideal)) (s : (⟨S_, .f32⟩ : BufTy).Contents (Elt Ideal))
    (h1 : smoothed p ≤ s ix0) (h2 : s ix0 ≤ smoothed p + Spec.slack) :
    Cert.Post_entropy_close.fn (F := Ideal) x0 x1 x2 x3 x4 o p h s = fun _ => 1#1 := by
  funext j
  obtain rfl : j = ix0 := funext fun a => a.elim0
  unfold smoothed Spec.smooth at h1 h2
  unfold Spec.slack at h2
  unfold Cert.Post_entropy_close.fn
  dsimp only
  pointwise
  rw [decide_eq_true h1, decide_eq_true h2]
  rfl

/-- The reference's softmax and entropy satisfy it. -/
theorem close (hg : ∀ i, ∃ r : ℝ, x4 i = r) (o : (⟨S4x576x64, .f32⟩ : BufTy).Contents (Elt Ideal))
    (h : (⟨S4x576x8192, .f32⟩ : BufTy).Contents (Elt Ideal)) :
    Cert.Post_entropy_close.fn (F := Ideal) x0 x1 x2 x3 x4 o (val_main_v24 x0 x1 x3 x4) h (val_main_v64 x0 x1 x3 x4)
      = fun _ => 1#1 := by
  obtain ⟨e, hpos, hle, hE⟩ := Spec.smooth_real
  have near : Spec.Near (4 * (576 * (8192 * e))) (∑ b : Fin 4, ∑ n : Fin 576, Spec.plogp (row x0 x1 x3 x4 b n))
      (∑ b : Fin 4, ∑ n : Fin 576, Spec.slogp (row x0 x1 x3 x4 b n)) := by
    have := Spec.near_sum fun b : Fin 4 => Spec.near_sum fun n : Fin 576 =>
      Spec.slogp_near (row_real x0 x1 x3 x4 hg b n) hpos hE
    exact_mod_cast this
  have key := Spec.mean_near rows_eq hle near
  have hs : smoothed (val_main_v24 x0 x1 x3 x4)
      = -Ideal.div (∑ b : Fin 4, ∑ n : Fin 576, Spec.slogp (row x0 x1 x3 x4 b n)) (Ideal.ofBits .f32 0x45100000#32) := by
    unfold smoothed Spec.slogp
    simp only [v24_at]
  rw [← hs, ← v64_at x0 x1 x3 x4 ix0] at key
  exact post_of x0 x1 x2 x3 x4 o _ h _ key.1 key.2

end Cert.ReferenceIdeal.Rows

end
-- ==== Proof.lean ====
/-
  The certificate: the frames of the compiled kernel, of its idealization and of the reference; that idealizing changed no
  operation; that at Ideal the kernel's four results are the reference's; and that its entropy is within 1e-4 of the one
  with 1e-8 inside the logarithm.
-/
module

public import proofs.«01_k».proof.Defs
public import proofs.«01_k».proof.Proof.Twin.Run
public import proofs.«01_k».proof.Proof.Run
public import proofs.«01_k».proof.Proof.Agree
public import proofs.«01_k».proof.Proof.Finite
public import proofs.«01_k».proof.Proof.Close
public import proofs.«01_k».proof.Proof.Gen.ReferenceIdeal.Run
public import proofs.«01_k».proof.Proof.Gen.ReferenceIdeal.Read
public import Idealize.ShloMosaic.Lib.Quiescent
public import proofs.«01_k».proof.Proof.Gen.Pre_gumbel_finite
public import proofs.«01_k».proof.Proof.Gen.Post_entropy_close

@[expose] public section

set_option maxRecDepth 16384

noncomputable section

namespace Cert.Proof

open Idealize.ShloMosaic Idealize.ShloMosaic.TcCoe Idealize.SL.Sem
open Cert.KernelIdeal.Arrays
open Cert.ReferenceIdeal.Read

/-- The reference leaves its arguments as they were; it declares no semaphore. -/
theorem reference_frame : Cert.quiescent_ReferenceIdeal := fun m ρ _ =>
  (θ_run Cert.ReferenceIdeal.defs _ _).mono
    (fun r h => ⟨fun c => (h c).2.2.2.2, sem_eq_zero_of_no_sems rfl r.2⟩) (Cert.ReferenceIdeal.Value.run m ρ)

/-- The kernel's run: with noise of finite magnitude its results are the reference's values of the arguments. -/
theorem kernel_values (m : (ℓ : Loc Cert.KernelIdeal.nD Cert.KernelIdeal.τ Cert.KernelIdeal.sig) → Buf (Elt Ideal) ℓ)
    (ρ : Dev Cert.KernelIdeal.nD → PrngReg) (hg : ∀ c i, ∃ r : ℝ, noise m c i = r) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v7)
          = val_main_v58 (points m c) (codes m c) (scale m c) (heat m c) (noise m c)
        ∧ r.2.mem ((c.tc : Thread Cert.KernelIdeal.nD Cert.KernelIdeal.τ).loc Cert.KernelIdeal.main_v10)
          = val_main_v24 (points m c) (codes m c) (heat m c) (noise m c)
        ∧ r.2.mem ((c.tc : Thread Cert.KernelIdeal.nD Cert.KernelIdeal.τ).loc Cert.KernelIdeal.main_v11)
          = val_main_v54 (points m c) (codes m c) (heat m c) (noise m c)
        ∧ r.2.mem ((c.tc : Thread Cert.KernelIdeal.nD Cert.KernelIdeal.τ).loc Cert.KernelIdeal.main_v9)
          = val_main_v64 (points m c) (codes m c) (heat m c) (noise m c)) :=
  (θ_run Cert.KernelIdeal.defs _ _).mono (fun r h c =>
    ⟨((h.1 c).2 _ (Pipeline.mem_restRefs_of _ (by decide) (by decide))).trans (out_agree m c (hg c)),
      ((h.1 c).2 _ (Pipeline.mem_restRefs_of _ (by decide) (by decide))).trans (soft_agree m c (hg c)),
      ((h.1 c).2 _ (Pipeline.mem_restRefs_of _ (by decide) (by decide))).trans (hard_agree m c (hg c)),
      ((h.1 c).2 _ (Pipeline.mem_restRefs_of _ (by decide) (by decide))).trans (ent_agree m c (hg c))⟩)
    (Cert.KernelIdeal.Run.run m ρ)

/-- At Ideal, from equal arguments with noise of finite magnitude, the kernel's four results are the reference's. -/
theorem algebraic : Cert.algebraic_KernelIdeal_ReferenceIdeal_pre_gumbel_finite := by
  intro m g m' g' hpre hargs
  have hg : ∀ c i, ∃ r : ℝ, noise m c i = r := fun c i => noise_real _ _ _ _ _ (hpre c) i
  refine ⟨fun c => val_main_v58 (points m c) (codes m c) (scale m c) (heat m c) (noise m c),
    fun c => val_main_v24 (points m c) (codes m c) (heat m c) (noise m c),
    fun c => val_main_v54 (points m c) (codes m c) (heat m c) (noise m c),
    fun c => val_main_v64 (points m c) (codes m c) (heat m c) (noise m c), ?_, ?_⟩
  · refine (θ_run Cert.KernelIdeal.defs _ _).mono (fun r h c => ?_)
      (θ_run_and (kernel_values m g hg) (Cert.KernelIdeal.Run.frame m g))
    obtain ⟨h0, h1, h2, h3⟩ := h.1 c
    exact ⟨h0, h1, h2, h3, h.2.1 c⟩
  · refine (θ_run Cert.ReferenceIdeal.defs _ _).mono (fun r h c => ?_) (Cert.ReferenceIdeal.Value.run m' g')
    obtain ⟨h0, h1, h2, h3, hk⟩ := h c
    obtain ⟨a0, a1, a2, a3, a4⟩ := hargs c
    refine ⟨h0.trans ?_, h1.trans ?_, h2.trans ?_, h3.trans ?_, hk⟩
    · rw [val_main_v58_eq, a0, a1, a2, a3, a4]
    · rw [val_main_v24_eq, a0, a1, a3, a4]
    · rw [val_main_v54_eq, a0, a1, a3, a4]
    · rw [val_main_v64_eq, a0, a1, a3, a4]

/-- At Ideal, with noise of finite magnitude, the entropy is within 1e-4 of the one with 1e-8 inside the logarithm. -/
theorem entropy_close : Cert.holds_KernelIdeal_entropy_close_pre_gumbel_finite := by
  intro m g hpre
  have hg : ∀ c i, ∃ r : ℝ, noise m c i = r := fun c i => noise_real _ _ _ _ _ (hpre c) i
  refine (θ_run Cert.KernelIdeal.defs _ _).mono (fun r h c => ?_)
    (θ_run_and (kernel_values m g hg) (Cert.KernelIdeal.Run.frame m g))
  obtain ⟨-, h1, -, h3⟩ := h.1 c
  obtain ⟨a0, a1, a2, a3, a4⟩ := h.2.1 c
  refine ⟨a0, a1, a2, a3, a4, ?_⟩
  rw [h1, h3]
  exact Cert.ReferenceIdeal.Rows.close _ _ _ _ _ (hg c) _ _

theorem claim : Cert.Claim :=
  ⟨Cert.Kernel.Gen.facts, Cert.KernelIdeal.Gen.facts, Cert.ReferenceIdeal.Gen.facts, Cert.Pre_gumbel_finite.Gen.facts,
    Cert.Post_entropy_close.Gen.facts,
    fun m ρ _ => Cert.Kernel.Run.frame m ρ, fun m ρ _ => Cert.KernelIdeal.Run.frame m ρ,
    fun m ρ _ => Cert.KernelIdeal.Run.frame m ρ, reference_frame, fun m ρ _ => reference_frame m ρ trivial, trivial,
    algebraic, entropy_close⟩

end Cert.Proof

end
